-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v7_0)) (v7 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v7_0) = v6 c
          ∧ r.2.mem ((c.tc : Thread Cert.KernelIdeal.nD Cert.KernelIdeal.τ).loc Cert.KernelIdeal.main_v7_3) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_v20) = v6 c
          ∧ r.2.mem ((c.tc : Thread Cert.ReferenceIdeal.nD Cert.ReferenceIdeal.τ).loc Cert.ReferenceIdeal.main_v47) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S1024x1024 : Shape := ⟨2, ![1024, 1024]⟩
abbrev S1024x32 : Shape := ⟨2, ![1024, 32]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S1024x1024 .f32) (main_arg1 : FVec F S1024x32 .f32) : IVec S1024x1024 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  main_v2
-- ==== Kernel.lean ====
abbrev S1024x1024 : Shape := ⟨2, ![1024, 1024]⟩
abbrev S1024x32 : Shape := ⟨2, ![1024, 32]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S1x1 : Shape := ⟨2, ![1, 1]⟩
abbrev S512x32 : Shape := ⟨2, ![512, 32]⟩
abbrev S512x1 : Shape := ⟨2, ![512, 1]⟩
abbrev S512x1024 : Shape := ⟨2, ![512, 1024]⟩
abbrev S512 : Shape := ⟨1, ![512]⟩
abbrev S1x512x32 : Shape := ⟨3, ![1, 512, 32]⟩
abbrev S1 : Shape := ⟨1, ![1]⟩
abbrev S1x1x1 : Shape := ⟨3, ![1, 1, 1]⟩
abbrev S1x1x1024 : Shape := ⟨3, ![1, 1, 1024]⟩
abbrev S1024x32x32 : Shape := ⟨3, ![1024, 32, 32]⟩

abbrev nBuf : Space → Nat
  | .hbm => 25
  | .vmem => 20
  | .smem => 0
  | _ => 0

abbrev bufTy : (tb : Table) → Fin (tcTables nBuf tb) → BufTy
  | .hbm, ⟨0, _⟩ => ⟨S1024x1024, .f32⟩
  | .hbm, ⟨1, _⟩ => ⟨S1024x32, .f32⟩
  | .hbm, ⟨2, _⟩ => ⟨S32768x32, .f32⟩
  | .hbm, ⟨3, _⟩ => ⟨S32768x32, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x32, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x32, .f32⟩
  | .hbm, ⟨13, _⟩ => ⟨S32768x32, .f32⟩
  | .hbm, ⟨14, _⟩ => ⟨S32768x1, .i32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1024x32x32, .f32⟩
  | .hbm, ⟨20, _⟩ => ⟨S1024x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S1024x32, .f32⟩
  | .local _ .vmem, ⟨3, _⟩ => ⟨S512x1, .f32⟩
  | .local _ .vmem, ⟨4, _⟩ => ⟨S512x1, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x32, .f32⟩
  | .local _ .vmem, ⟨9, _⟩ => ⟨S512x32, .f32⟩
  | .local _ .vmem, ⟨10, _⟩ => ⟨S512x32, .f32⟩
  | .local _ .vmem, ⟨11, _⟩ => ⟨S512x32, .f32⟩
  | .local _ .vmem, ⟨12, _⟩ => ⟨S512x1, .i32⟩
  | .local _ .vmem, ⟨13, _⟩ => ⟨S512x1, .i32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1x1024, .f32⟩
  | .local _ .vmem, ⟨19, _⟩ => ⟨S1x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v58 : BitVec 1 := Scalar.cmpi .eq arg0 c63_i32
  let v59 : BitVec 32 := Scalar.extui v58
  let c0_i32_31 : BitVec 32 := 0#32
  let v60 : BitVec 1 := Scalar.cmpi .ne v59 c0_i32_31
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1024x1024 : Shape := ⟨2, ![1024, 1024]⟩
abbrev S1024x32 : Shape := ⟨2, ![1024, 32]⟩
abbrev S1024x32x32 : Shape := ⟨3, ![1024, 32, 32]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S32x1024 : Shape := ⟨2, ![32, 1024]⟩
abbrev S1 : Shape := ⟨1, ![1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x32, .f32⟩
  | .hbm, ⟨2, _⟩ => ⟨S1024x32x32, .f32⟩
  | .hbm, ⟨3, _⟩ => ⟨S32768x32, .f32⟩
  | .hbm, ⟨4, _⟩ => ⟨S32768x32, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .i32⟩
  | .hbm, ⟨26, _⟩ => ⟨S_, .f32⟩
  | .hbm, ⟨27, _⟩ => ⟨S_, .i32⟩
  | .hbm, ⟨28, _⟩ => ⟨S32768, .f32⟩
  | .hbm, ⟨29, _⟩ => ⟨S32768, .i32⟩
  | .hbm, ⟨30, _⟩ => ⟨S32768x1, .i32⟩
  | .hbm, ⟨31, _⟩ => ⟨S1x1024, .i32⟩
  | .hbm, ⟨32, _⟩ => ⟨S32768x1024, .i32⟩
  | .hbm, ⟨33, _⟩ => ⟨S32768x1024, .i32⟩
  | .hbm, ⟨34, _⟩ => ⟨S32768x1024, .i1⟩
  | .hbm, ⟨35, _⟩ => ⟨S32768x1024, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S1x1, .i32⟩
  | .hbm, ⟨49, _⟩ => ⟨S32768x1, .i32⟩
  | .hbm, ⟨50, _⟩ => ⟨S32768x1, .i1⟩
  | .hbm, ⟨51, _⟩ => ⟨S32768x1, .i1⟩
  | .hbm, ⟨52, _⟩ => ⟨S_, .i1⟩
  | .hbm, ⟨53, _⟩ => ⟨S32768, .i1⟩
  | .hbm, ⟨54, _⟩ => ⟨S32768x32, .f32⟩
  | .hbm, ⟨55, _⟩ => ⟨S32768x32, .i1⟩
  | .hbm, ⟨56, _⟩ => ⟨S_, .f32⟩
  | .hbm, ⟨57, _⟩ => ⟨S32768x32, .f32⟩
  | .hbm, ⟨58, _⟩ => ⟨S32768x32, .f32⟩
  | .hbm, ⟨59, _⟩ => ⟨S1024x32x32, .f32⟩
  | .hbm, ⟨60, _⟩ => ⟨S1024x32x32, .f32⟩
  | .hbm, ⟨61, _⟩ => ⟨S1024x32x32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1024x32x32, .f32⟩
  | .hbm, ⟨67, _⟩ => ⟨S1024x32x32, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1024x32x32, .f32⟩
  | .hbm, ⟨78, _⟩ => ⟨S1024x32x32, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1024x1024, .f32⟩
  | .hbm, ⟨94, _⟩ => ⟨S32768x1, .i32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v20 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_cst_6 : Ref sig .tc := ⟨.hbm, 70, rfl⟩
abbrev main_v30 : Ref sig .tc := ⟨.hbm, 71, rfl⟩
abbrev main_cst_7 : Ref sig .tc := ⟨.hbm, 72, rfl⟩
abbrev main_v31 : Ref sig .tc := ⟨.hbm, 73, rfl⟩
abbrev main_cst_8 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_9 : Ref sig .tc := ⟨.hbm, 79, rfl⟩
abbrev main_v36 : Ref sig .tc := ⟨.hbm, 80, rfl⟩
abbrev main_cst_10 : Ref sig .tc := ⟨.hbm, 81, rfl⟩
abbrev main_v37 : Ref sig .tc := ⟨.hbm, 82, rfl⟩
abbrev main_v38 : Ref sig .tc := ⟨.hbm, 83, rfl⟩
abbrev main_cst_11 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_12 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]
-- ==== Proof.KBlock.lean ====
/-
  What one grid point of the kernel leaves in its output blocks and in its two running totals, read off the run of
  its body: the block of one-hot rows, the block of looked-up rows (written twice), the block of indices, and the two
  totals; at the last point also the four scalars computed from the totals.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz : (![0, 0] : Fin 2 → Nat) = fun _ => 0 := funext fun a => by fin_cases a <;> rfl

section
variable (c : Dev nD) (i : grid0.Coords) (arg1 : Memref sig .tc .vmem S512x32 .f32) (harg1 : arg1.IsWhole) (arg2 : Memref sig .tc .vmem S1024x32 .f32) (harg2 : arg2.IsWhole) (arg3 : Memref sig .tc .vmem S512x1 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x32 .f32) (harg6 : arg6.IsWhole) (arg7 : Memref sig .tc .vmem S512x32 .f32) (harg7 : arg7.IsWhole) (arg8 : Memref sig .tc .vmem S512x1 .i32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole)
variable (x0 : Vec F S512x32 .f32) (x1 : Vec F S1024x32 .f32) (x2 : Vec F S512x1 .f32) (x3 : Vec F S1x1024 .f32) (xs0 : Vec F S1x1024 .f32) (xs1 : Vec F S1x1 .f32)

/-- At the first point the body leaves the one-hot block in this buffer. -/
theorem out0_A_4_eq (hc0 : cond0_0 i) (hc1 : ¬cond0_1 i) :
    out0_A_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay10 x0 x1 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_unit_zero (S := S512x1024) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the first point the body leaves the looked-up rows in this buffer. -/
theorem out0_A_5_eq (hc0 : cond0_0 i) (hc1 : ¬cond0_1 i) :
    out0_A_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay11 x0 x1 x2 x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_unit_zero (S := S512x32) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the first point the body leaves the looked-up rows in this buffer. -/
theorem out0_A_6_eq (hc0 : cond0_0 i) (hc1 : ¬cond0_1 i) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay11 x0 x1 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_unit_zero (S := S512x32) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the first point the body leaves the indices in this buffer. -/
theorem out0_A_7_eq (hc0 : cond0_0 i) (hc1 : ¬cond0_1 i) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay12 x0 x1 x2 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_unit_zero (S := S512x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the first point the body leaves the running one-hot column sums in this buffer. -/
theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay4 (k0_pay10 x0 x1 x2 x3) k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S1x1024) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the first point the body leaves the running sum of squares in this buffer. -/
theorem sout0_A_1_eq (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay3 (k0_pay8 x0) (k0_pay11 x0 x1 x2 x3) k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At a middle point the body leaves the one-hot block in this buffer. -/
theorem out0_B_4_eq (hc0 : ¬cond0_0 i) (hc1 : ¬cond0_1 i) :
    out0_B_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay10 x0 x1 x2 x3 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  sl_unfold_words
  rw [View.canon_unit_zero (S := S512x1024) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At a middle point the body leaves the looked-up rows in this buffer. -/
theorem out0_B_5_eq (hc0 : ¬cond0_0 i) (hc1 : ¬cond0_1 i) :
    out0_B_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay11 x0 x1 x2 x3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  sl_unfold_words
  rw [View.canon_unit_zero (S := S512x32) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At a middle point the body leaves the looked-up rows in this buffer. -/
theorem out0_B_6_eq (hc0 : ¬cond0_0 i) (hc1 : ¬cond0_1 i) :
    out0_B_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay11 x0 x1 x2 x3 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  sl_unfold_words
  rw [View.canon_unit_zero (S := S512x32) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At a middle point the body leaves the indices in this buffer. -/
theorem out0_B_7_eq (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay12 x0 x1 x2 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  sl_unfold_words
  rw [View.canon_unit_zero (S := S512x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At a middle point the body leaves the running one-hot column sums in this buffer. -/
theorem sout0_B_0_eq (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay4 (k0_pay10 x0 x1 x2 x3) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  sl_unfold_words
  rw [View.canon_unit_zero (S := S1x1024) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At a middle point the body leaves the running sum of squares in this buffer. -/
theorem sout0_B_1_eq (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay3 (k0_pay8 x0) (k0_pay11 x0 x1 x2 x3) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_B
  dsimp only
  sl_unfold_words
  rw [View.canon_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the one-hot block in this buffer. -/
theorem out0_C_4_eq (hc0 : ¬cond0_0 i) (hc1 : cond0_1 i) :
    out0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay10 x0 x1 x2 x3 := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S512x1024) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the looked-up rows in this buffer. -/
theorem out0_C_5_eq (hc0 : ¬cond0_0 i) (hc1 : cond0_1 i) :
    out0_C_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay11 x0 x1 x2 x3 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S512x32) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the looked-up rows in this buffer. -/
theorem out0_C_6_eq (hc0 : ¬cond0_0 i) (hc1 : cond0_1 i) :
    out0_C_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay11 x0 x1 x2 x3 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S512x32) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the indices in this buffer. -/
theorem out0_C_7_eq (hc0 : ¬cond0_0 i) (hc1 : cond0_1 i) :
    out0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay12 x0 x1 x2 x3 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S512x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the running one-hot column sums in this buffer. -/
theorem sout0_C_0_eq (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay4 (k0_pay10 x0 x1 x2 x3) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S1x1024) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the running sum of squares in this buffer. -/
theorem sout0_C_1_eq (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay3 (k0_pay8 x0) (k0_pay11 x0 x1 x2 x3) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the weighted loss in this buffer. -/
theorem out0_C_8_eq (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay6 (k0_pay3 (k0_pay8 x0) (k0_pay11 x0 x1 x2 x3) xs1) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the mean square in this buffer. -/
theorem out0_C_9_eq (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay5 (k0_pay3 (k0_pay8 x0) (k0_pay11 x0 x1 x2 x3) xs1) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the mean square in this buffer. -/
theorem out0_C_10_eq (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay5 (k0_pay3 (k0_pay8 x0) (k0_pay11 x0 x1 x2 x3) xs1) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

/-- At the last point the body leaves the perplexity in this buffer. -/
theorem out0_C_11_eq (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 = k0_pay7 (k0_pay4 (k0_pay10 x0 x1 x2 x3) xs0) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1)]
  unfold kernelRun0_C
  dsimp only
  sl_unfold_words
  rw [View.canon_unit_zero (S := S1x1) hz]
  try simp only [View.readCov_unit_zero (S := S1x1) _ hz, View.readCov_unit_zero (S := S1x1024) _ hz]
  simp only [View.readAt_eq_ld, harg1.read_unread, harg2.read_unread, harg3.read_unread, harg4.read_unread, harg13.read_unread, harg14.read_unread, View.ld_unit_zero (S := S512x32) hz, View.ld_unit_zero (S := S1024x32) hz, View.ld_unit_zero (S := S512x1) hz, View.ld_unit_zero (S := S1x1024) hz, View.ld_unit_zero (S := S1x1) hz]

end

end Cert.KernelIdeal.Val

end
-- ==== Proof.KPoint.lean ====
/-
  What the outputs and the two running totals hold after each grid point, by induction on the point.
-/
module

public import proofs.«01_k».proof.Proof.KBlock
public import Idealize.ShloMosaic.Lib.ValueIdxCore

@[expose] public section

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-- The one-hot block of point `t`. -/
abbrev ohB (c : Dev nD) (t : Fin cfg0.N) : Vec F S512x1024 .f32 := k0_pay10 (iblk m c 0 t) (iblk m c 1 t) (iblk m c 2 t) (iblk m c 3 t)
/-- The looked-up rows of point `t`. -/
abbrev zqB (c : Dev nD) (t : Fin cfg0.N) : Vec F S512x32 .f32 := k0_pay11 (iblk m c 0 t) (iblk m c 1 t) (iblk m c 2 t) (iblk m c 3 t)
/-- The indices of point `t`. -/
abbrev idxB (c : Dev nD) (t : Fin cfg0.N) : Vec F S512x1 .i32 := k0_pay12 (iblk m c 0 t) (iblk m c 1 t) (iblk m c 2 t) (iblk m c 3 t)

/-- The column sums of the one-hot blocks up to point `n`. -/
def cnt (c : Dev nD) : (n : ℕ) → n < cfg0.N → Vec F S1x1024 .f32
  | 0, h => k0_pay4 (ohB m c ⟨0, h⟩) k0_pay1
  | n + 1, h => k0_pay4 (ohB m c ⟨n + 1, h⟩) (cnt c n (Nat.lt_of_succ_lt h))

/-- The sum of squared differences up to point `n`. -/
def sqs (c : Dev nD) : (n : ℕ) → n < cfg0.N → Vec F S1x1 .f32
  | 0, h => k0_pay3 (k0_pay8 (iblk m c 0 ⟨0, h⟩)) (zqB m c ⟨0, h⟩) k0_pay2
  | n + 1, h => k0_pay3 (k0_pay8 (iblk m c 0 ⟨n + 1, h⟩)) (zqB m c ⟨n + 1, h⟩) (sqs c n (Nat.lt_of_succ_lt h))

/-- What the body leaves after point `n`: the four blocks of the point and the two totals up to it. -/
theorem outs_eq (c : Dev nD) : ∀ (n : ℕ) (h : n < cfg0.N),
    (outsAt0 m c n h).1 = ohB m c ⟨n, h⟩ ∧ (outsAt0 m c n h).2.1 = zqB m c ⟨n, h⟩
    ∧ (outsAt0 m c n h).2.2.1 = zqB m c ⟨n, h⟩ ∧ (outsAt0 m c n h).2.2.2.1 = idxB m c ⟨n, h⟩
    ∧ (outsAt0 m c n h).2.2.2.2.2.2.2.2.1 = cnt m c n h ∧ (outsAt0 m c n h).2.2.2.2.2.2.2.2.2 = sqs m c n h
  | 0, h => by
    have e := outsAt0_A m c ⟨0, h⟩ rfl (show ¬(0 : ℕ) % 64 = 63 by decide)
    exact ⟨(by rw [e]; dsimp only; rw [out0_A_4_eq]),
        (by rw [e]; dsimp only; rw [out0_A_5_eq]),
        (by rw [e]; dsimp only; rw [out0_A_6_eq]),
        (by rw [e]; dsimp only; rw [out0_A_7_eq]),
        (by rw [e]; dsimp only; rw [sout0_A_0_eq]; rfl),
        (by rw [e]; dsimp only; rw [sout0_A_1_eq]; rfl)⟩
  | n + 1, h => by
    have hN : cfg0.N = 64 := N_0
    obtain ⟨-, -, -, -, i0, i1⟩ := outs_eq c n (Nat.lt_of_succ_lt h)
    have hA : ¬(⟨n + 1, h⟩ : Fin cfg0.N).val % 64 = 0 := by dsimp only; omega
    by_cases hC : (⟨n + 1, h⟩ : Fin cfg0.N).val % 64 = 63
    · have e := outsAt0_C m c ⟨n + 1, h⟩ hA hC
      exact ⟨(by rw [e]; dsimp only; rw [out0_C_4_eq]),
        (by rw [e]; dsimp only; rw [out0_C_5_eq]),
        (by rw [e]; dsimp only; rw [out0_C_6_eq]),
        (by rw [e]; dsimp only; rw [out0_C_7_eq]),
        (by rw [e]; dsimp only; rw [sout0_C_0_eq]; exact congrArg (k0_pay4 _) i0),
        (by rw [e]; dsimp only; rw [sout0_C_1_eq]; exact congrArg (k0_pay3 _ _) i1)⟩
    · have e := outsAt0_B m c ⟨n + 1, h⟩ hA hC
      exact ⟨(by rw [e]; dsimp only; rw [out0_B_4_eq]),
        (by rw [e]; dsimp only; rw [out0_B_5_eq]),
        (by rw [e]; dsimp only; rw [out0_B_6_eq]),
        (by rw [e]; dsimp only; rw [out0_B_7_eq]),
        (by rw [e]; dsimp only; rw [sout0_B_0_eq]; exact congrArg (k0_pay4 _) i0),
        (by rw [e]; dsimp only; rw [sout0_B_1_eq]; exact congrArg (k0_pay3 _ _) i1)⟩

/-- What the body leaves at the last point in the four one-element outputs, from the totals over all points. -/
theorem outs_last (c : Dev nD) (t : Fin cfg0.N) (ht : t.val % 64 = 63) :
    (outsAt0 m c t.val t.isLt).2.2.2.2.1 = k0_pay6 (sqs m c t.val t.isLt)
    ∧ (outsAt0 m c t.val t.isLt).2.2.2.2.2.1 = k0_pay5 (sqs m c t.val t.isLt)
    ∧ (outsAt0 m c t.val t.isLt).2.2.2.2.2.2.1 = k0_pay5 (sqs m c t.val t.isLt)
    ∧ (outsAt0 m c t.val t.isLt).2.2.2.2.2.2.2.1 = k0_pay7 (cnt m c t.val t.isLt) := by
  obtain ⟨n, h⟩ := t
  have hn : n % 64 = 63 := ht
  obtain ⟨k, rfl⟩ : ∃ k, n = k + 1 := ⟨n - 1, by omega⟩
  obtain ⟨-, -, -, -, i0, i1⟩ := outs_eq m c k (Nat.lt_of_succ_lt h)
  have hA : ¬(⟨k + 1, h⟩ : Fin cfg0.N).val % 64 = 0 := by dsimp only; omega
  have e := outsAt0_C m c ⟨k + 1, h⟩ hA ht
  have e0 : k0_pay4 (ohB m c ⟨k + 1, h⟩) (outsAt0 m c k (Nat.lt_of_succ_lt h)).2.2.2.2.2.2.2.2.1 = cnt m c (k + 1) h := congrArg (k0_pay4 _) i0
  have e1 : k0_pay3 (k0_pay8 (iblk m c 0 ⟨k + 1, h⟩)) (zqB m c ⟨k + 1, h⟩) (outsAt0 m c k (Nat.lt_of_succ_lt h)).2.2.2.2.2.2.2.2.2 = sqs m c (k + 1) h := congrArg (k0_pay3 _ _) i1
  exact ⟨(by rw [e]; dsimp only; rw [out0_C_8_eq]; exact congrArg k0_pay6 e1),
        (by rw [e]; dsimp only; rw [out0_C_9_eq]; exact congrArg k0_pay5 e1),
        (by rw [e]; dsimp only; rw [out0_C_10_eq]; exact congrArg k0_pay5 e1),
        (by rw [e]; dsimp only; rw [out0_C_11_eq]; exact congrArg k0_pay7 e0)⟩

end Cert.KernelIdeal.Val

end
-- ==== Proof.KArr.lean ====
/-
  The arrays the region leaves: the four blocked outputs are tiled by the points' blocks; the four one-element outputs
  are written once, at the last point. The input blocks are read as rows of the arrays the region finds.
-/
module

public import proofs.«01_k».proof.Proof.KPoint
public import Idealize.ShloMosaic.Lib.ValueIdxCore

@[expose] public section

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-- The point whose block holds row `r`. -/
abbrev ptOf (r : Fin 32768) : Fin cfg0.N := ⟨r.val / 512, lt_of_lt_of_eq (by have := r.isLt; omega) N_0.symm⟩
/-- Row `r`'s place in its block. -/
abbrev rowOf (r : Fin 32768) : Fin 512 := ⟨r.val % 512, Nat.mod_lt _ (by decide)⟩
/-- Row `r` of block `t`, in the whole array. -/
abbrev rowAt (t : Fin cfg0.N) (r : Fin 512) : Fin 32768 := ⟨512 * t.val + r.val, by have := t.isLt; have : cfg0.N = 64 := N_0; omega⟩

/-- Output 4's array: row `r` is row `r % 512` of point `r / 512`'s one-hot rows. -/
def G4 (c : Dev nD) : Buf (Elt F) ((c : Thread nD τ).loc main_v7_0) := fun i =>
  ohB m c (ptOf (i 0)) (ix2 (rowOf (i 0)) (i 1))

/-- Output 4's block at point `t` is block `(t, 0)`. -/
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- What point `t` writes back is block `t` of `G4`. -/
theorem flushed4_eq (c : Dev nD) (t : Fin cfg0.N) :
    (dats m 0 c).flushed 4 t = ((cfg0.win 4).blk t).view.read (Elt F) (G4 m c) := by
  show (cfg0.win 4).cut (grid0.coords t) ((dats m 0 c).after 4 t) = _
  rw [after0_4, show (outsAt0 m c t.val t.isLt).1 = ohB m c t from (outs_eq m c t.val t.isLt).1]
  obtain ⟨e0, e1⟩ := index4 t
  funext y
  have hy0 : (y 0).val < 512 := (y 0).isLt
  have hy1 : (y 1).val < 1024 := (y 1).isLt
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  have hp : ptOf (((cfg0.win 4).blk t).view.emb y 0) = t := by
    apply Fin.ext
    show (((cfg0.win 4).blk t).view.emb y 0).val / 512 = t.val
    rw [hb0]; omega
  have hl : (ix2 (rowOf (((cfg0.win 4).blk t).view.emb y 0)) (((cfg0.win 4).blk t).view.emb y 1) : S512x1024.Idx) = (cfg0.win 4).xinj (grid0.coords t) y := by
    funext a; apply Fin.ext
    match a with
    | ⟨0, _⟩ => show (((cfg0.win 4).blk t).view.emb y 0).val % 512 = (y 0).val; rw [hb0]; omega
    | ⟨1, _⟩ => show (((cfg0.win 4).blk t).view.emb y 1).val = (y 1).val; rw [hb1]; omega
  have k1 : ∀ B : Vec F S512x1024 .f32, (cfg0.win 4).cut (grid0.coords t) B y = B ((cfg0.win 4).xinj (grid0.coords t) y) := fun _ => rfl
  have k2 : ∀ B : Buf (Elt F) ((c : Thread nD τ).loc main_v7_0), ((cfg0.win 4).blk t).view.read (Elt F) B y = B (((cfg0.win 4).blk t).view.emb y) := fun _ => rfl
  refine (k1 (ohB m c t)).trans (Eq.trans ?_ (k2 (G4 m c)).symm)
  unfold G4
  rw [hp, ← hl]

/-- Output 4's array after the run. -/
theorem final4 (c : Dev nD) : (dats m 0 c).arrAt 4 cfg0.N = G4 m c :=
  (dats m 0 c).arrAt_eq_of_cover 4 _ (fun t _ => flushed4_eq m c t) fun i => by
    have hi0 : (i 0).val < 32768 := (i 0).isLt
    have hi1 : (i 1).val < 1024 := (i 1).isLt
    obtain ⟨e0, e1⟩ := index4 (ptOf (i 0))
    refine ⟨ptOf (i 0), flush0_4 _, ?_⟩
    show i ∈ ((View.whole main_v7_0).slice (win0_4.rect (ptOf (i 0)))).set
    rw [View.set_slice_whole, Rect.mem_set_unit]
    intro a
    match a with
    | ⟨0, _⟩ => show win0_4.index (ptOf (i 0)) (0 : Fin 2) * 512 ≤ (i 0).val ∧ (i 0).val < win0_4.index (ptOf (i 0)) (0 : Fin 2) * 512 + 512; rw [e0]; dsimp only; omega
    | ⟨1, _⟩ => show win0_4.index (ptOf (i 0)) (1 : Fin 2) * 1024 ≤ (i 1).val ∧ (i 1).val < win0_4.index (ptOf (i 0)) (1 : Fin 2) * 1024 + 1024; rw [e1]; omega

/-- Output 5's array: row `r` is row `r % 512` of point `r / 512`'s looked-up rows. -/
def G5 (c : Dev nD) : Buf (Elt F) ((c : Thread nD τ).loc main_v7_1) := fun i =>
  zqB m c (ptOf (i 0)) (ix2 (rowOf (i 0)) (i 1))

/-- Output 5's block at point `t` is block `(t, 0)`. -/
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- What point `t` writes back is block `t` of `G5`. -/
theorem flushed5_eq (c : Dev nD) (t : Fin cfg0.N) :
    (dats m 0 c).flushed 5 t = ((cfg0.win 5).blk t).view.read (Elt F) (G5 m c) := by
  show (cfg0.win 5).cut (grid0.coords t) ((dats m 0 c).after 5 t) = _
  rw [after0_5, show (outsAt0 m c t.val t.isLt).2.1 = zqB m c t from (outs_eq m c t.val t.isLt).2.1]
  obtain ⟨e0, e1⟩ := index5 t
  funext y
  have hy0 : (y 0).val < 512 := (y 0).isLt
  have hy1 : (y 1).val < 32 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 32 + 1 * (y 1).val := rfl
  have hp : ptOf (((cfg0.win 5).blk t).view.emb y 0) = t := by
    apply Fin.ext
    show (((cfg0.win 5).blk t).view.emb y 0).val / 512 = t.val
    rw [hb0]; omega
  have hl : (ix2 (rowOf (((cfg0.win 5).blk t).view.emb y 0)) (((cfg0.win 5).blk t).view.emb y 1) : S512x32.Idx) = (cfg0.win 5).xinj (grid0.coords t) y := by
    funext a; apply Fin.ext
    match a with
    | ⟨0, _⟩ => show (((cfg0.win 5).blk t).view.emb y 0).val % 512 = (y 0).val; rw [hb0]; omega
    | ⟨1, _⟩ => show (((cfg0.win 5).blk t).view.emb y 1).val = (y 1).val; rw [hb1]; omega
  have k1 : ∀ B : Vec F S512x32 .f32, (cfg0.win 5).cut (grid0.coords t) B y = B ((cfg0.win 5).xinj (grid0.coords t) y) := fun _ => rfl
  have k2 : ∀ B : Buf (Elt F) ((c : Thread nD τ).loc main_v7_1), ((cfg0.win 5).blk t).view.read (Elt F) B y = B (((cfg0.win 5).blk t).view.emb y) := fun _ => rfl
  refine (k1 (zqB m c t)).trans (Eq.trans ?_ (k2 (G5 m c)).symm)
  unfold G5
  rw [hp, ← hl]

/-- Output 5's array after the run. -/
theorem final5 (c : Dev nD) : (dats m 0 c).arrAt 5 cfg0.N = G5 m c :=
  (dats m 0 c).arrAt_eq_of_cover 5 _ (fun t _ => flushed5_eq m c t) fun i => by
    have hi0 : (i 0).val < 32768 := (i 0).isLt
    have hi1 : (i 1).val < 32 := (i 1).isLt
    obtain ⟨e0, e1⟩ := index5 (ptOf (i 0))
    refine ⟨ptOf (i 0), flush0_5 _, ?_⟩
    show i ∈ ((View.whole main_v7_1).slice (win0_5.rect (ptOf (i 0)))).set
    rw [View.set_slice_whole, Rect.mem_set_unit]
    intro a
    match a with
    | ⟨0, _⟩ => show win0_5.index (ptOf (i 0)) (0 : Fin 2) * 512 ≤ (i 0).val ∧ (i 0).val < win0_5.index (ptOf (i 0)) (0 : Fin 2) * 512 + 512; rw [e0]; dsimp only; omega
    | ⟨1, _⟩ => show win0_5.index (ptOf (i 0)) (1 : Fin 2) * 32 ≤ (i 1).val ∧ (i 1).val < win0_5.index (ptOf (i 0)) (1 : Fin 2) * 32 + 32; rw [e1]; omega

/-- Output 6's array: row `r` is row `r % 512` of point `r / 512`'s looked-up rows. -/
def G6 (c : Dev nD) : Buf (Elt F) ((c : Thread nD τ).loc main_v7_2) := fun i =>
  zqB m c (ptOf (i 0)) (ix2 (rowOf (i 0)) (i 1))

/-- Output 6's block at point `t` is block `(t, 0)`. -/
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- What point `t` writes back is block `t` of `G6`. -/
theorem flushed6_eq (c : Dev nD) (t : Fin cfg0.N) :
    (dats m 0 c).flushed 6 t = ((cfg0.win 6).blk t).view.read (Elt F) (G6 m c) := by
  show (cfg0.win 6).cut (grid0.coords t) ((dats m 0 c).after 6 t) = _
  rw [after0_6, show (outsAt0 m c t.val t.isLt).2.2.1 = zqB m c t from (outs_eq m c t.val t.isLt).2.2.1]
  obtain ⟨e0, e1⟩ := index6 t
  funext y
  have hy0 : (y 0).val < 512 := (y 0).isLt
  have hy1 : (y 1).val < 32 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 32 + 1 * (y 1).val := rfl
  have hp : ptOf (((cfg0.win 6).blk t).view.emb y 0) = t := by
    apply Fin.ext
    show (((cfg0.win 6).blk t).view.emb y 0).val / 512 = t.val
    rw [hb0]; omega
  have hl : (ix2 (rowOf (((cfg0.win 6).blk t).view.emb y 0)) (((cfg0.win 6).blk t).view.emb y 1) : S512x32.Idx) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val = (y 1).val; rw [hb1]; omega
  have k1 : ∀ B : Vec F S512x32 .f32, (cfg0.win 6).cut (grid0.coords t) B y = B ((cfg0.win 6).xinj (grid0.coords t) y) := fun _ => rfl
  have k2 : ∀ B : Buf (Elt F) ((c : Thread nD τ).loc main_v7_2), ((cfg0.win 6).blk t).view.read (Elt F) B y = B (((cfg0.win 6).blk t).view.emb y) := fun _ => rfl
  refine (k1 (zqB m c t)).trans (Eq.trans ?_ (k2 (G6 m c)).symm)
  unfold G6
  rw [hp, ← hl]

/-- Output 6's array after the run. -/
theorem final6 (c : Dev nD) : (dats m 0 c).arrAt 6 cfg0.N = G6 m c :=
  (dats m 0 c).arrAt_eq_of_cover 6 _ (fun t _ => flushed6_eq m c t) fun i => by
    have hi0 : (i 0).val < 32768 := (i 0).isLt
    have hi1 : (i 1).val < 32 := (i 1).isLt
    obtain ⟨e0, e1⟩ := index6 (ptOf (i 0))
    refine ⟨ptOf (i 0), flush0_6 _, ?_⟩
    show i ∈ ((View.whole main_v7_2).slice (win0_6.rect (ptOf (i 0)))).set
    rw [View.set_slice_whole, Rect.mem_set_unit]
    intro a
    match a with
    | ⟨0, _⟩ => show win0_6.index (ptOf (i 0)) (0 : Fin 2) * 512 ≤ (i 0).val ∧ (i 0).val < win0_6.index (ptOf (i 0)) (0 : Fin 2) * 512 + 512; rw [e0]; dsimp only; omega
    | ⟨1, _⟩ => show win0_6.index (ptOf (i 0)) (1 : Fin 2) * 32 ≤ (i 1).val ∧ (i 1).val < win0_6.index (ptOf (i 0)) (1 : Fin 2) * 32 + 32; rw [e1]; omega

/-- Output 7's array: row `r` is row `r % 512` of point `r / 512`'s indices. -/
def G7 (c : Dev nD) : Buf (Elt F) ((c : Thread nD τ).loc main_v7_3) := fun i =>
  idxB m c (ptOf (i 0)) (ix2 (rowOf (i 0)) (i 1))

/-- Output 7's block at point `t` is block `(t, 0)`. -/
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- What point `t` writes back is block `t` of `G7`. -/
theorem flushed7_eq (c : Dev nD) (t : Fin cfg0.N) :
    (dats m 0 c).flushed 7 t = ((cfg0.win 7).blk t).view.read (Elt F) (G7 m c) := by
  show (cfg0.win 7).cut (grid0.coords t) ((dats m 0 c).after 7 t) = _
  rw [after0_7, show (outsAt0 m c t.val t.isLt).2.2.2.1 = idxB m c t from (outs_eq m c t.val t.isLt).2.2.2.1]
  obtain ⟨e0, e1⟩ := index7 t
  funext y
  have hy0 : (y 0).val < 512 := (y 0).isLt
  have hy1 : (y 1).val < 1 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 1 + 1 * (y 1).val := rfl
  have hp : ptOf (((cfg0.win 7).blk t).view.emb y 0) = t := by
    apply Fin.ext
    show (((cfg0.win 7).blk t).view.emb y 0).val / 512 = t.val
    rw [hb0]; omega
  have hl : (ix2 (rowOf (((cfg0.win 7).blk t).view.emb y 0)) (((cfg0.win 7).blk t).view.emb y 1) : S512x1.Idx) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val = (y 1).val; rw [hb1]; omega
  have k1 : ∀ B : Vec F S512x1 .i32, (cfg0.win 7).cut (grid0.coords t) B y = B ((cfg0.win 7).xinj (grid0.coords t) y) := fun _ => rfl
  have k2 : ∀ B : Buf (Elt F) ((c : Thread nD τ).loc main_v7_3), ((cfg0.win 7).blk t).view.read (Elt F) B y = B (((cfg0.win 7).blk t).view.emb y) := fun _ => rfl
  refine (k1 (idxB m c t)).trans (Eq.trans ?_ (k2 (G7 m c)).symm)
  unfold G7
  rw [hp, ← hl]

/-- Output 7's array after the run. -/
theorem final7 (c : Dev nD) : (dats m 0 c).arrAt 7 cfg0.N = G7 m c :=
  (dats m 0 c).arrAt_eq_of_cover 7 _ (fun t _ => flushed7_eq m c t) fun i => by
    have hi0 : (i 0).val < 32768 := (i 0).isLt
    have hi1 : (i 1).val < 1 := (i 1).isLt
    obtain ⟨e0, e1⟩ := index7 (ptOf (i 0))
    refine ⟨ptOf (i 0), flush0_7 _, ?_⟩
    show i ∈ ((View.whole main_v7_3).slice (win0_7.rect (ptOf (i 0)))).set
    rw [View.set_slice_whole, Rect.mem_set_unit]
    intro a
    match a with
    | ⟨0, _⟩ => show win0_7.index (ptOf (i 0)) (0 : Fin 2) * 512 ≤ (i 0).val ∧ (i 0).val < win0_7.index (ptOf (i 0)) (0 : Fin 2) * 512 + 512; rw [e0]; dsimp only; omega
    | ⟨1, _⟩ => show win0_7.index (ptOf (i 0)) (1 : Fin 2) * 1 ≤ (i 1).val ∧ (i 1).val < win0_7.index (ptOf (i 0)) (1 : Fin 2) * 1 + 1; rw [e1]; omega

/-- The last point. -/
theorem last_lt : 63 < cfg0.N := lt_of_lt_of_eq (by decide) N_0.symm

/-- Output 8's one block is its whole array. -/
theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Output 8's array: what the last point writes. -/
abbrev G8 (c : Dev nD) : Buf (Elt F) ((c : Thread nD τ).loc main_v7_4) := (k0_pay6 (sqs m c 63 last_lt) : Vec F S1x1 .f32)

/-- The last point writes it back. -/
theorem flushed8_eq (c : Dev nD) (t : Fin cfg0.N) (hf : (cfg0.win 8).flush t = true) :
    (dats m 0 c).flushed 8 t = ((cfg0.win 8).blk t).view.read (Elt F) (G8 m c) := by
  have hm : t.val % 64 = 63 := (flush0_8 t).mp hf
  have hN : cfg0.N = 64 := N_0
  have ht := t.isLt
  obtain rfl : t = ⟨63, last_lt⟩ := Fin.ext (by show t.val = 63; omega)
  show (cfg0.win 8).cut (grid0.coords ⟨63, last_lt⟩) ((dats m 0 c).after 8 ⟨63, last_lt⟩) = _
  rw [after0_8, (outs_last m c ⟨63, last_lt⟩ hm).1]
  obtain ⟨e0, e1⟩ := index8 ⟨63, last_lt⟩
  funext y
  show G8 m c ((cfg0.win 8).xinj (grid0.coords ⟨63, last_lt⟩) y) = G8 m c (((cfg0.win 8).blk ⟨63, last_lt⟩).view.emb y)
  congr 1
  funext a; apply Fin.ext
  match a with
  | ⟨0, _⟩ => show (y 0).val = win0_8.index ⟨63, last_lt⟩ (0 : Fin 2) * 1 + 1 * (y 0).val; rw [e0]; omega
  | ⟨1, _⟩ => show (y 1).val = win0_8.index ⟨63, last_lt⟩ (1 : Fin 2) * 1 + 1 * (y 1).val; rw [e1]; omega

/-- Output 8's array after the run. -/
theorem final8 (c : Dev nD) : (dats m 0 c).arrAt 8 cfg0.N = G8 m c :=
  (dats m 0 c).arrAt_eq_of_cover 8 _ (fun t hf => flushed8_eq m c t hf) fun i => by
    have hi0 : (i 0).val < 1 := (i 0).isLt
    have hi1 : (i 1).val < 1 := (i 1).isLt
    obtain ⟨e0, e1⟩ := index8 ⟨63, last_lt⟩
    refine ⟨⟨63, last_lt⟩, (flush0_8 _).mpr rfl, ?_⟩
    show i ∈ ((View.whole main_v7_4).slice (win0_8.rect ⟨63, last_lt⟩)).set
    rw [View.set_slice_whole, Rect.mem_set_unit]
    intro a
    match a with
    | ⟨0, _⟩ => show win0_8.index ⟨63, last_lt⟩ (0 : Fin 2) * 1 ≤ (i 0).val ∧ (i 0).val < win0_8.index ⟨63, last_lt⟩ (0 : Fin 2) * 1 + 1; rw [e0]; omega
    | ⟨1, _⟩ => show win0_8.index ⟨63, last_lt⟩ (1 : Fin 2) * 1 ≤ (i 1).val ∧ (i 1).val < win0_8.index ⟨63, last_lt⟩ (1 : Fin 2) * 1 + 1; rw [e1]; omega

/-- Output 9's one block is its whole array. -/
theorem index9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Output 9's array: what the last point writes. -/
abbrev G9 (c : Dev nD) : Buf (Elt F) ((c : Thread nD τ).loc main_v7_5) := (k0_pay5 (sqs m c 63 last_lt) : Vec F S1x1 .f32)

/-- The last point writes it back. -/
theorem flushed9_eq (c : Dev nD) (t : Fin cfg0.N) (hf : (cfg0.win 9).flush t = true) :
    (dats m 0 c).flushed 9 t = ((cfg0.win 9).blk t).view.read (Elt F) (G9 m c) := by
  have hm : t.val % 64 = 63 := (flush0_9 t).mp hf
  have hN : cfg0.N = 64 := N_0
  have ht := t.isLt
  obtain rfl : t = ⟨63, last_lt⟩ := Fin.ext (by show t.val = 63; omega)
  show (cfg0.win 9).cut (grid0.coords ⟨63, last_lt⟩) ((dats m 0 c).after 9 ⟨63, last_lt⟩) = _
  rw [after0_9, (outs_last m c ⟨63, last_lt⟩ hm).2.1]
  obtain ⟨e0, e1⟩ := index9 ⟨63, last_lt⟩
  funext y
  show G9 m c ((cfg0.win 9).xinj (grid0.coords ⟨63, last_lt⟩) y) = G9 m c (((cfg0.win 9).blk ⟨63, last_lt⟩).view.emb y)
  congr 1
  funext a; apply Fin.ext
  match a with
  | ⟨0, _⟩ => show (y 0).val = win0_9.index ⟨63, last_lt⟩ (0 : Fin 2) * 1 + 1 * (y 0).val; rw [e0]; omega
  | ⟨1, _⟩ => show (y 1).val = win0_9.index ⟨63, last_lt⟩ (1 : Fin 2) * 1 + 1 * (y 1).val; rw [e1]; omega

/-- Output 9's array after the run. -/
theorem final9 (c : Dev nD) : (dats m 0 c).arrAt 9 cfg0.N = G9 m c :=
  (dats m 0 c).arrAt_eq_of_cover 9 _ (fun t hf => flushed9_eq m c t hf) fun i => by
    have hi0 : (i 0).val < 1 := (i 0).isLt
    have hi1 : (i 1).val < 1 := (i 1).isLt
    obtain ⟨e0, e1⟩ := index9 ⟨63, last_lt⟩
    refine ⟨⟨63, last_lt⟩, (flush0_9 _).mpr rfl, ?_⟩
    show i ∈ ((View.whole main_v7_5).slice (win0_9.rect ⟨63, last_lt⟩)).set
    rw [View.set_slice_whole, Rect.mem_set_unit]
    intro a
    match a with
    | ⟨0, _⟩ => show win0_9.index ⟨63, last_lt⟩ (0 : Fin 2) * 1 ≤ (i 0).val ∧ (i 0).val < win0_9.index ⟨63, last_lt⟩ (0 : Fin 2) * 1 + 1; rw [e0]; omega
    | ⟨1, _⟩ => show win0_9.index ⟨63, last_lt⟩ (1 : Fin 2) * 1 ≤ (i 1).val ∧ (i 1).val < win0_9.index ⟨63, last_lt⟩ (1 : Fin 2) * 1 + 1; rw [e1]; omega

/-- Output 10's one block is its whole array. -/
theorem index10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Output 10's array: what the last point writes. -/
abbrev G10 (c : Dev nD) : Buf (Elt F) ((c : Thread nD τ).loc main_v7_6) := (k0_pay5 (sqs m c 63 last_lt) : Vec F S1x1 .f32)

/-- The last point writes it back. -/
theorem flushed10_eq (c : Dev nD) (t : Fin cfg0.N) (hf : (cfg0.win 10).flush t = true) :
    (dats m 0 c).flushed 10 t = ((cfg0.win 10).blk t).view.read (Elt F) (G10 m c) := by
  have hm : t.val % 64 = 63 := (flush0_10 t).mp hf
  have hN : cfg0.N = 64 := N_0
  have ht := t.isLt
  obtain rfl : t = ⟨63, last_lt⟩ := Fin.ext (by show t.val = 63; omega)
  show (cfg0.win 10).cut (grid0.coords ⟨63, last_lt⟩) ((dats m 0 c).after 10 ⟨63, last_lt⟩) = _
  rw [after0_10, (outs_last m c ⟨63, last_lt⟩ hm).2.2.1]
  obtain ⟨e0, e1⟩ := index10 ⟨63, last_lt⟩
  funext y
  show G10 m c ((cfg0.win 10).xinj (grid0.coords ⟨63, last_lt⟩) y) = G10 m c (((cfg0.win 10).blk ⟨63, last_lt⟩).view.emb y)
  congr 1
  funext a; apply Fin.ext
  match a with
  | ⟨0, _⟩ => show (y 0).val = win0_10.index ⟨63, last_lt⟩ (0 : Fin 2) * 1 + 1 * (y 0).val; rw [e0]; omega
  | ⟨1, _⟩ => show (y 1).val = win0_10.index ⟨63, last_lt⟩ (1 : Fin 2) * 1 + 1 * (y 1).val; rw [e1]; omega

/-- Output 10's array after the run. -/
theorem final10 (c : Dev nD) : (dats m 0 c).arrAt 10 cfg0.N = G10 m c :=
  (dats m 0 c).arrAt_eq_of_cover 10 _ (fun t hf => flushed10_eq m c t hf) fun i => by
    have hi0 : (i 0).val < 1 := (i 0).isLt
    have hi1 : (i 1).val < 1 := (i 1).isLt
    obtain ⟨e0, e1⟩ := index10 ⟨63, last_lt⟩
    refine ⟨⟨63, last_lt⟩, (flush0_10 _).mpr rfl, ?_⟩
    show i ∈ ((View.whole main_v7_6).slice (win0_10.rect ⟨63, last_lt⟩)).set
    rw [View.set_slice_whole, Rect.mem_set_unit]
    intro a
    match a with
    | ⟨0, _⟩ => show win0_10.index ⟨63, last_lt⟩ (0 : Fin 2) * 1 ≤ (i 0).val ∧ (i 0).val < win0_10.index ⟨63, last_lt⟩ (0 : Fin 2) * 1 + 1; rw [e0]; omega
    | ⟨1, _⟩ => show win0_10.index ⟨63, last_lt⟩ (1 : Fin 2) * 1 ≤ (i 1).val ∧ (i 1).val < win0_10.index ⟨63, last_lt⟩ (1 : Fin 2) * 1 + 1; rw [e1]; omega

/-- Output 11's one block is its whole array. -/
theorem index11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Output 11's array: what the last point writes. -/
abbrev G11 (c : Dev nD) : Buf (Elt F) ((c : Thread nD τ).loc main_v7_7) := (k0_pay7 (cnt m c 63 last_lt) : Vec F S1x1 .f32)

/-- The last point writes it back. -/
theorem flushed11_eq (c : Dev nD) (t : Fin cfg0.N) (hf : (cfg0.win 11).flush t = true) :
    (dats m 0 c).flushed 11 t = ((cfg0.win 11).blk t).view.read (Elt F) (G11 m c) := by
  have hm : t.val % 64 = 63 := (flush0_11 t).mp hf
  have hN : cfg0.N = 64 := N_0
  have ht := t.isLt
  obtain rfl : t = ⟨63, last_lt⟩ := Fin.ext (by show t.val = 63; omega)
  show (cfg0.win 11).cut (grid0.coords ⟨63, last_lt⟩) ((dats m 0 c).after 11 ⟨63, last_lt⟩) = _
  rw [after0_11, (outs_last m c ⟨63, last_lt⟩ hm).2.2.2]
  obtain ⟨e0, e1⟩ := index11 ⟨63, last_lt⟩
  funext y
  show G11 m c ((cfg0.win 11).xinj (grid0.coords ⟨63, last_lt⟩) y) = G11 m c (((cfg0.win 11).blk ⟨63, last_lt⟩).view.emb y)
  congr 1
  funext a; apply Fin.ext
  match a with
  | ⟨0, _⟩ => show (y 0).val = win0_11.index ⟨63, last_lt⟩ (0 : Fin 2) * 1 + 1 * (y 0).val; rw [e0]; omega
  | ⟨1, _⟩ => show (y 1).val = win0_11.index ⟨63, last_lt⟩ (1 : Fin 2) * 1 + 1 * (y 1).val; rw [e1]; omega

/-- Output 11's array after the run. -/
theorem final11 (c : Dev nD) : (dats m 0 c).arrAt 11 cfg0.N = G11 m c :=
  (dats m 0 c).arrAt_eq_of_cover 11 _ (fun t hf => flushed11_eq m c t hf) fun i => by
    have hi0 : (i 0).val < 1 := (i 0).isLt
    have hi1 : (i 1).val < 1 := (i 1).isLt
    obtain ⟨e0, e1⟩ := index11 ⟨63, last_lt⟩
    refine ⟨⟨63, last_lt⟩, (flush0_11 _).mpr rfl, ?_⟩
    show i ∈ ((View.whole main_v7_7).slice (win0_11.rect ⟨63, last_lt⟩)).set
    rw [View.set_slice_whole, Rect.mem_set_unit]
    intro a
    match a with
    | ⟨0, _⟩ => show win0_11.index ⟨63, last_lt⟩ (0 : Fin 2) * 1 ≤ (i 0).val ∧ (i 0).val < win0_11.index ⟨63, last_lt⟩ (0 : Fin 2) * 1 + 1; rw [e0]; omega
    | ⟨1, _⟩ => show win0_11.index ⟨63, last_lt⟩ (1 : Fin 2) * 1 ≤ (i 1).val ∧ (i 1).val < win0_11.index ⟨63, last_lt⟩ (1 : Fin 2) * 1 + 1; rw [e1]; omega

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Input 0's block at point `t`, in the array. -/
theorem iblk0_apply (c : Dev nD) (t : Fin cfg0.N) (r : Fin 512) (l : Fin 32) :
    (iblk m c 0 t : Vec F S512x32 .f32) (ix2 r l) = V m c main_v0 (ix2 (rowAt t r) l) := by
  obtain ⟨e0, e1⟩ := index0 t
  unfold iblk
  rw [View.read_apply]
  show V m c main_v0 _ = V m c main_v0 _
  congr 1
  funext a; apply Fin.ext
  match a with
  | ⟨0, _⟩ => show win0_0.index t (0 : Fin 2) * 512 + 1 * r.val = 512 * t.val + r.val; rw [e0]; omega
  | ⟨1, _⟩ => show win0_0.index t (1 : Fin 2) * 32 + 1 * l.val = l.val; rw [e1]; omega

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Input 1's block at point `t`, in the array. -/
theorem iblk1_apply (c : Dev nD) (t : Fin cfg0.N) (r : Fin 1024) (l : Fin 32) :
    (iblk m c 1 t : Vec F S1024x32 .f32) (ix2 r l) = V m c main_arg1 (ix2 r l) := by
  obtain ⟨e0, e1⟩ := index1 t
  unfold iblk
  rw [View.read_apply]
  show V m c main_arg1 _ = V m c main_arg1 _
  congr 1
  funext a; apply Fin.ext
  match a with
  | ⟨0, _⟩ => show win0_1.index t (0 : Fin 2) * 1024 + 1 * r.val = r.val; rw [e0]; omega
  | ⟨1, _⟩ => show win0_1.index t (1 : Fin 2) * 32 + 1 * l.val = l.val; rw [e1]; omega

theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Input 2's block at point `t`, in the array. -/
theorem iblk2_apply (c : Dev nD) (t : Fin cfg0.N) (r : Fin 512) (l : Fin 1) :
    (iblk m c 2 t : Vec F S512x1 .f32) (ix2 r l) = V m c main_v3 (ix2 (rowAt t r) l) := by
  obtain ⟨e0, e1⟩ := index2 t
  unfold iblk
  rw [View.read_apply]
  show V m c main_v3 _ = V m c main_v3 _
  congr 1
  funext a; apply Fin.ext
  match a with
  | ⟨0, _⟩ => show win0_2.index t (0 : Fin 2) * 512 + 1 * r.val = 512 * t.val + r.val; rw [e0]; omega
  | ⟨1, _⟩ => show win0_2.index t (1 : Fin 2) * 1 + 1 * l.val = l.val; rw [e1]; omega

theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Input 3's block at point `t`, in the array. -/
theorem iblk3_apply (c : Dev nD) (t : Fin cfg0.N) (r : Fin 1) (l : Fin 1024) :
    (iblk m c 3 t : Vec F S1x1024 .f32) (ix2 r l) = V m c main_v6 (ix2 r l) := by
  obtain ⟨e0, e1⟩ := index3 t
  unfold iblk
  rw [View.read_apply]
  show V m c main_v6 _ = V m c main_v6 _
  congr 1
  funext a; apply Fin.ext
  match a with
  | ⟨0, _⟩ => show win0_3.index t (0 : Fin 2) * 1 + 1 * r.val = r.val; rw [e0]; omega
  | ⟨1, _⟩ => show win0_3.index t (1 : Fin 2) * 1024 + 1 * l.val = l.val; rw [e1]; omega

end Cert.KernelIdeal.Val

end
-- ==== Proof.KRun.lean ====
/-
  The kernel's run read back: what the region is given, and each result buffer after the lines that follow the region.
-/
module

public import proofs.«01_k».proof.Proof.KArr

@[expose] public section

noncomputable section

open Idealize.ShloMosaic Idealize.ShloMosaic.TcCoe Idealize.SL.Sem
open Idealize.ShloMosaic.Pipeline (Dat)
open Idealize.ShloMosaic.StableHlo
open Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-- The input. -/
abbrev a0 (c : Dev nD) : Vec F S1024x1024 .f32 := m ((c.tc : Thread nD τ).loc main_arg0)
/-- The codebook. -/
abbrev a1 (c : Dev nD) : Vec F S1024x32 .f32 := m ((c.tc : Thread nD τ).loc main_arg1)

/-- The input as 32768 rows. -/
def zf (z : Vec F S1024x1024 .f32) : Vec F S32768x32 .f32 := shapeCast S32768x32 z shapeCasts_S1024x1024_S32768x32
/-- The rows' squared lengths. -/
def zz (z : Vec F S1024x1024 .f32) : Vec F S32768x1 .f32 :=
  broadcastInDim S32768x1 ![0] bcast_S32768_S32768x1_0 (Host.reduceAdd (mulf (zf z) (zf z)) (constant S_ .f32 0x00000000#32) reducesTo_S32768x32_S32768_d1 h_S_)
/-- The codes' squared lengths. -/
def cc (cb : Vec F S1024x32 .f32) : Vec F S1x1024 .f32 :=
  shapeCast S1x1024 (Host.reduceAdd (mulf cb cb) (constant S_ .f32 0x00000000#32) reducesTo_S1024x32_S1024_d1 h_S_) shapeCasts_S1024_S1x1024

/-- The region is given the input as rows. -/
theorem entry_v0 (c : Dev nD) : V m c main_v0 = zf (a0 m c) := by
  unfold V V0
  simp only [hostOps0, List.flatten_cons, List.flatten_nil, List.append_nil]
  after_results_simp <;> rfl

/-- The region is given the rows' squared lengths. -/
theorem entry_v3 (c : Dev nD) : V m c main_v3 = zz (a0 m c) := by
  unfold V V0
  simp only [hostOps0, List.flatten_cons, List.flatten_nil, List.append_nil]
  after_results_simp <;> rfl

/-- The region is given the codes' squared lengths. -/
theorem entry_v6 (c : Dev nD) : V m c main_v6 = cc (a1 m c) := by
  unfold V V0
  simp only [hostOps0, List.flatten_cons, List.flatten_nil, List.append_nil]
  after_results_simp <;> rfl

/-- The windows' arrays are different buffers. -/
theorem arr_inj : Function.Injective (Pipeline.arrRef spec0) := by decide

/-- What the lines after the region leave in `main_v8`. -/
theorem tail_v8 (c : Dev nD) : Pipeline.afterTail₀ cfgs (dats m) 0 (V0 m) [hostOps1] c main_v8
    = (shapeCast S1024x32x32 (G5 m c : Vec F S32768x32 .f32) shapeCasts_S32768x32_S1024x32x32 : Vec F S1024x32x32 .f32) := by
  unfold Pipeline.afterTail₀
  have e : Pipeline.withArrays (cfgs 0).spec c (V0 m c) (fun w => (dats m 0 c).arrAt w (cfgs 0).N) (Proc.devRef .tc main_v7_1) = G5 m c :=
    (Pipeline.withArrays_arr spec0 arr_inj c (V0 m c) (fun w => (dats m 0 c).arrAt w (cfgs 0).N) 5).trans (final5 m c)
  rw [← e]
  generalize Pipeline.withArrays (cfgs 0).spec c (V0 m c) (fun w => (dats m 0 c).arrAt w (cfgs 0).N) = W
  simp only [hostOps1, List.flatten_cons, List.flatten_nil, List.append_nil]
  after_results_simp <;> rfl

/-- What the lines after the region leave in `main_v9`. -/
theorem tail_v9 (c : Dev nD) : Pipeline.afterTail₀ cfgs (dats m) 0 (V0 m) [hostOps1] c main_v9
    = (shapeCast S1024x1024 (G6 m c : Vec F S32768x32 .f32) shapeCasts_S32768x32_S1024x1024 : Vec F S1024x1024 .f32) := by
  unfold Pipeline.afterTail₀
  have e : Pipeline.withArrays (cfgs 0).spec c (V0 m c) (fun w => (dats m 0 c).arrAt w (cfgs 0).N) (Proc.devRef .tc main_v7_2) = G6 m c :=
    (Pipeline.withArrays_arr spec0 arr_inj c (V0 m c) (fun w => (dats m 0 c).arrAt w (cfgs 0).N) 6).trans (final6 m c)
  rw [← e]
  generalize Pipeline.withArrays (cfgs 0).spec c (V0 m c) (fun w => (dats m 0 c).arrAt w (cfgs 0).N) = W
  simp only [hostOps1, List.flatten_cons, List.flatten_nil, List.append_nil]
  after_results_simp <;> rfl

/-- What the lines after the region leave in `main_v10`. -/
theorem tail_v10 (c : Dev nD) : Pipeline.afterTail₀ cfgs (dats m) 0 (V0 m) [hostOps1] c main_v10
    = (shapeCast S_ (G8 m c : Vec F S1x1 .f32) shapeCasts_S1x1_S_ : Vec F S_ .f32) := by
  unfold Pipeline.afterTail₀
  have e : Pipeline.withArrays (cfgs 0).spec c (V0 m c) (fun w => (dats m 0 c).arrAt w (cfgs 0).N) (Proc.devRef .tc main_v7_4) = G8 m c :=
    (Pipeline.withArrays_arr spec0 arr_inj c (V0 m c) (fun w => (dats m 0 c).arrAt w (cfgs 0).N) 8).trans (final8 m c)
  rw [← e]
  generalize Pipeline.withArrays (cfgs 0).spec c (V0 m c) (fun w => (dats m 0 c).arrAt w (cfgs 0).N) = W
  simp only [hostOps1, List.flatten_cons, List.flatten_nil, List.append_nil]
  after_results_simp <;> rfl

/-- What the lines after the region leave in `main_v11`. -/
theorem tail_v11 (c : Dev nD) : Pipeline.afterTail₀ cfgs (dats m) 0 (V0 m) [hostOps1] c main_v11
    = (shapeCast S_ (G9 m c : Vec F S1x1 .f32) shapeCasts_S1x1_S_ : Vec F S_ .f32) := by
  unfold Pipeline.afterTail₀
  have e : Pipeline.withArrays (cfgs 0).spec c (V0 m c) (fun w => (dats m 0 c).arrAt w (cfgs 0).N) (Proc.devRef .tc main_v7_5) = G9 m c :=
    (Pipeline.withArrays_arr spec0 arr_inj c (V0 m c) (fun w => (dats m 0 c).arrAt w (cfgs 0).N) 9).trans (final9 m c)
  rw [← e]
  generalize Pipeline.withArrays (cfgs 0).spec c (V0 m c) (fun w => (dats m 0 c).arrAt w (cfgs 0).N) = W
  simp only [hostOps1, List.flatten_cons, List.flatten_nil, List.append_nil]
  after_results_simp <;> rfl

/-- What the lines after the region leave in `main_v12`. -/
theorem tail_v12 (c : Dev nD) : Pipeline.afterTail₀ cfgs (dats m) 0 (V0 m) [hostOps1] c main_v12
    = (shapeCast S_ (G10 m c : Vec F S1x1 .f32) shapeCasts_S1x1_S_ : Vec F S_ .f32) := by
  unfold Pipeline.afterTail₀
  have e : Pipeline.withArrays (cfgs 0).spec c (V0 m c) (fun w => (dats m 0 c).arrAt w (cfgs 0).N) (Proc.devRef .tc main_v7_6) = G10 m c :=
    (Pipeline.withArrays_arr spec0 arr_inj c (V0 m c) (fun w => (dats m 0 c).arrAt w (cfgs 0).N) 10).trans (final10 m c)
  rw [← e]
  generalize Pipeline.withArrays (cfgs 0).spec c (V0 m c) (fun w => (dats m 0 c).arrAt w (cfgs 0).N) = W
  simp only [hostOps1, List.flatten_cons, List.flatten_nil, List.append_nil]
  after_results_simp <;> rfl

/-- What the lines after the region leave in `main_v13`. -/
theorem tail_v13 (c : Dev nD) : Pipeline.afterTail₀ cfgs (dats m) 0 (V0 m) [hostOps1] c main_v13
    = (shapeCast S_ (G11 m c : Vec F S1x1 .f32) shapeCasts_S1x1_S_ : Vec F S_ .f32) := by
  unfold Pipeline.afterTail₀
  have e : Pipeline.withArrays (cfgs 0).spec c (V0 m c) (fun w => (dats m 0 c).arrAt w (cfgs 0).N) (Proc.devRef .tc main_v7_7) = G11 m c :=
    (Pipeline.withArrays_arr spec0 arr_inj c (V0 m c) (fun w => (dats m 0 c).arrAt w (cfgs 0).N) 11).trans (final11 m c)
  rw [← e]
  generalize Pipeline.withArrays (cfgs 0).spec c (V0 m c) (fun w => (dats m 0 c).arrAt w (cfgs 0).N) = W
  simp only [hostOps1, List.flatten_cons, List.flatten_nil, List.append_nil]
  after_results_simp <;> rfl

/-- Every run of the kernel ends with each result at the region's arrays, reshaped, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v10) = (shapeCast S_ (G8 m c : Vec F S1x1 .f32) shapeCasts_S1x1_S_ : Vec F S_ .f32)
      ∧ r.2.mem ((c.tc : Thread nD τ).loc main_v11) = (shapeCast S_ (G9 m c : Vec F S1x1 .f32) shapeCasts_S1x1_S_ : Vec F S_ .f32)
      ∧ r.2.mem ((c.tc : Thread nD τ).loc main_v12) = (shapeCast S_ (G10 m c : Vec F S1x1 .f32) shapeCasts_S1x1_S_ : Vec F S_ .f32)
      ∧ r.2.mem ((c.tc : Thread nD τ).loc main_v8) = (shapeCast S1024x32x32 (G5 m c : Vec F S32768x32 .f32) shapeCasts_S32768x32_S1024x32x32 : Vec F S1024x32x32 .f32)
      ∧ r.2.mem ((c.tc : Thread nD τ).loc main_v9) = (shapeCast S1024x1024 (G6 m c : Vec F S32768x32 .f32) shapeCasts_S32768x32_S1024x1024 : Vec F S1024x1024 .f32)
      ∧ r.2.mem ((c.tc : Thread nD τ).loc main_v13) = (shapeCast S_ (G11 m c : Vec F S1x1 .f32) shapeCasts_S1x1_S_ : Vec F S_ .f32)
      ∧ r.2.mem ((c.tc : Thread nD τ).loc main_v7_0) = G4 m c
      ∧ r.2.mem ((c.tc : Thread nD τ).loc main_v7_3) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
    ((h c).2 main_v10 (Pipeline.mem_restRefs_of main_v10 (by decide) (by decide))).trans (tail_v10 m c),
    ((h c).2 main_v11 (Pipeline.mem_restRefs_of main_v11 (by decide) (by decide))).trans (tail_v11 m c),
    ((h c).2 main_v12 (Pipeline.mem_restRefs_of main_v12 (by decide) (by decide))).trans (tail_v12 m c),
    ((h c).2 main_v8 (Pipeline.mem_restRefs_of main_v8 (by decide) (by decide))).trans (tail_v8 m c),
    ((h c).2 main_v9 (Pipeline.mem_restRefs_of main_v9 (by decide) (by decide))).trans (tail_v9 m c),
    ((h c).2 main_v13 (Pipeline.mem_restRefs_of main_v13 (by decide) (by decide))).trans (tail_v13 m c),
    ((h c).1 4).trans (final4 m c), ((h c).1 7).trans (final7 m c),
    ((h c).2 main_arg0 (Pipeline.mem_restRefs_of main_arg0 (by decide) (by decide))).trans (W_main_arg0 m (dats m) c),
    ((h c).1 1).trans (((dats m 0 c).arrAt_in 1 rfl cfg0.N).trans ((A_eq m c 1).trans (V_main_arg1 m c)))⟩)
    (run_main m ρ)

end Cert.KernelIdeal.Val

end
-- ==== Proof.Argmin.lean ====
/-
  The first minimiser of a row of 1024 extended reals, and the two folds that find it: the minimum of the positions at
  which the row equals its minimum, and the fold of the pairs (value, position) that keeps the smaller value and, at
  equal values, the smaller position.
-/
module

public import proofs.«01_k».proof.Proof.Gen.ReferenceIdeal
public import Idealize.ShloMosaic.PureOps.Ideal.Laws

@[expose] public section

noncomputable section

open Idealize.ShloMosaic

namespace Cert.Math

/-- `n` is the first position at which the row `f` takes its least value. -/
def FirstMin (f : Fin 1024 → EReal) (n : Fin 1024) : Prop := (∀ k, f n ≤ f k) ∧ ∀ k, k < n → f n < f k

/-- A row has at most one first minimiser. -/
theorem FirstMin.unique {f : Fin 1024 → EReal} {n n' : Fin 1024} (h : FirstMin f n) (h' : FirstMin f n') : n = n' := by
  rcases lt_trichotomy n n' with hlt | he | hgt
  · exact absurd (h.1 n') (not_le.2 (h'.2 n hlt))
  · exact he
  · exact absurd (h'.1 n) (not_le.2 (h.2 n' hgt))

/-- A row has a first minimiser. -/
theorem FirstMin.exists (f : Fin 1024 → EReal) : ∃ n, FirstMin f n := by
  obtain ⟨a, ha⟩ := Finite.exists_min f
  obtain ⟨n, hn, hl⟩ := WellFounded.has_min (wellFounded_lt (α := Fin 1024)) {n | ∀ k, f n ≤ f k} ⟨a, ha⟩
  refine ⟨n, hn, fun k hk => lt_of_not_ge fun hge => hl k (fun j => hge.trans (hn j)) hk⟩

/-- A position below 1024, as a 32-bit word, read as a signed number. -/
theorem toInt_ofNat (n : Fin 1024) : (BitVec.ofNat 32 n.val).toInt = n.val := by
  have h := n.isLt
  have e : (BitVec.ofNat 32 n.val).toNat = n.val := by rw [BitVec.toNat_ofNat]; omega
  rw [BitVec.toInt_eq_toNat_of_lt (by omega), e]

/-- Positions below 1024 are equal when their words are. -/
theorem ofNat_inj {n k : Fin 1024} (h : BitVec.ofNat 32 n.val = BitVec.ofNat 32 k.val) : n = k := by
  have e := congrArg BitVec.toInt h
  rw [toInt_ofNat, toInt_ofNat] at e
  exact Fin.ext (by exact_mod_cast e)

/-! ### The minimum of the matching positions -/

/-- The signed minimum is one of its operands and at most each. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  by_cases h : a.slt b = true
  · rw [if_pos h]
    have h' := h
    rw [BitVec.slt_iff_toInt_lt] at h'
    exact ⟨.inl rfl, le_refl _, h'.le⟩
  · rw [if_neg h]
    have h' := h
    rw [BitVec.slt_iff_toInt_lt] at h'
    exact ⟨.inr rfl, not_lt.1 h', le_refl _⟩

/-- The fold of the signed minimum is its start or one of the words folded, and at most each of them. -/
theorem fold_minsi {ι : Type} [DecidableEq ι] [Std.Commutative IntOp.minsi (α := BitVec 32)] [Std.Associative IntOp.minsi (α := BitVec 32)]
    (S : Finset ι) (b : BitVec 32) (g : ι → BitVec 32) :
    (S.fold IntOp.minsi b g = b ∨ ∃ i ∈ S, S.fold IntOp.minsi b g = g i) ∧ ∀ i ∈ S, (S.fold IntOp.minsi b g).toInt ≤ (g i).toInt := by
  induction S using Finset.induction_on with
  | empty => exact ⟨.inl rfl, fun i hi => absurd hi (Finset.notMem_empty i)⟩
  | insert a S ha ih =>
    rw [Finset.fold_insert ha]
    obtain ⟨he, hl, hr⟩ := minsi_spec (g a) (S.fold IntOp.minsi b g)
    constructor
    · rcases he with he | he
      · exact .inr ⟨a, Finset.mem_insert_self a S, he⟩
      · rcases ih.1 with h0 | ⟨i, hi, h1⟩
        · exact .inl (he.trans h0)
        · exact .inr ⟨i, Finset.mem_insert_of_mem hi, he.trans h1⟩
    · intro i hi
      rcases Finset.mem_insert.1 hi with rfl | hi
      · exact hl
      · exact hr.trans (ih.2 i hi)

/-- The fold of `min` from the top over a whole row is the row's value at its first minimiser. -/
theorem fold_min {f : Fin 1024 → EReal} {n : Fin 1024} (h : FirstMin f n) :
    (Finset.univ : Finset (Fin 1024)).fold min ⊤ f = f n := by
  refine le_antisymm ?_ ?_
  · exact (Finset.fold_min_le _).2 (.inr ⟨n, Finset.mem_univ n, le_refl _⟩)
  · exact (Finset.le_fold_min _).2 ⟨le_top, fun k _ => h.1 k⟩

/-- The least of the positions at which the row equals its minimum, other positions counting as 1024, is the first minimiser. -/
theorem fold_positions [Std.Commutative IntOp.minsi (α := BitVec 32)] [Std.Associative IntOp.minsi (α := BitVec 32)]
    {f : Fin 1024 → EReal} {n : Fin 1024} (h : FirstMin f n) (g : Fin 1024 → BitVec 32)
    (hg : ∀ k, g k = if f k = f n then BitVec.ofNat 32 k.val else 1024#32) :
    (Finset.univ : Finset (Fin 1024)).fold IntOp.minsi 2147483647#32 g = BitVec.ofNat 32 n.val := by
  obtain ⟨he, hl⟩ := fold_minsi (Finset.univ : Finset (Fin 1024)) 2147483647#32 g
  have hn := hl n (Finset.mem_univ n)
  rw [hg n, if_pos rfl, toInt_ofNat] at hn
  have hn' := n.isLt
  rcases he with he | ⟨k, -, he⟩
  · rw [he] at hn
    exact absurd hn (by rw [show (2147483647#32 : BitVec 32).toInt = 2147483647 by decide]; omega)
  · rw [he] at hn ⊢
    rw [hg k] at hn ⊢
    by_cases hk : f k = f n
    · rw [if_pos hk] at hn ⊢
      rw [toInt_ofNat] at hn
      have hkn : ¬ k < n := fun hlt => absurd hk (ne_of_gt (h.2 k hlt))
      have : k = n := le_antisymm (by exact_mod_cast hn) (not_lt.1 hkn)
      rw [this]
    · rw [if_neg hk] at hn
      exact absurd hn (by rw [show (1024#32 : BitVec 32).toInt = 1024 by decide]; omega)

/-! ### The fold of the pairs -/

/-- The order of the pairs: by value, then by position. -/
def Le2 (a b : EReal × BitVec 32) : Prop := a.1 < b.1 ∨ (a.1 = b.1 ∧ a.2.toInt ≤ b.2.toInt)

theorem Le2.refl (a : EReal × BitVec 32) : Le2 a a := .inr ⟨rfl, le_refl _⟩

theorem Le2.trans {a b c : EReal × BitVec 32} (h : Le2 a b) (h' : Le2 b c) : Le2 a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The step of the fold: the smaller pair. -/
abbrev red : EReal × BitVec 32 → EReal × BitVec 32 → EReal × BitVec 32 := Cert.ReferenceIdeal.reducer_argmin_f32_i32 (F := Ideal)

/-- The step keeps one of its two pairs, and what it keeps is at most each. -/
theorem red_spec (a b : EReal × BitVec 32) : (red a b = a ∨ red a b = b) ∧ Le2 (red a b) a ∧ Le2 (red a b) b := by
  obtain ⟨x, i⟩ := a
  obtain ⟨y, j⟩ := b
  have key : red (x, i) (y, j) = if x < y then (x, i) else if x = y then (if i.slt j then (x, i) else (y, j)) else (y, j) := by
    simp only [red, Cert.ReferenceIdeal.reducer_argmin_f32_i32, Ideal.cmpf_def, Ideal.cmp, IntOp.cmpi, IntOp.ori, IntOp.andi, Scalar.select]
    have h1or : ∀ b : BitVec 1, 1#1 ||| b = 1#1 := by decide
    by_cases h1 : x < y
    · simp [h1, h1or]
    · by_cases h2 : x = y
      · subst h2
        by_cases h3 : i.slt j = true
        · simp [h3]
        · simp [h3]
      · simp [h1, h2]
  rw [key]
  by_cases h1 : x < y
  · rw [if_pos h1]; exact ⟨.inl rfl, Le2.refl _, .inl h1⟩
  · rw [if_neg h1]
    by_cases h2 : x = y
    · rw [if_pos h2]
      by_cases h3 : i.slt j = true
      · rw [if_pos h3]
        rw [BitVec.slt_iff_toInt_lt] at h3
        exact ⟨.inl rfl, Le2.refl _, .inr ⟨h2, h3.le⟩⟩
      · rw [if_neg h3]
        rw [BitVec.slt_iff_toInt_lt] at h3
        exact ⟨.inr rfl, .inr ⟨h2.symm, not_lt.1 h3⟩, Le2.refl _⟩
    · rw [if_neg h2]
      exact ⟨.inr rfl, .inl (lt_of_le_of_ne (not_lt.1 h1) (Ne.symm h2)), Le2.refl _⟩

/-- The fold keeps its start or a pair of the list, and what it keeps is at most each of them. -/
theorem foldl_red (l : List (EReal × BitVec 32)) : ∀ a, (l.foldl red a = a ∨ l.foldl red a ∈ l) ∧ Le2 (l.foldl red a) a
    ∧ ∀ p ∈ l, Le2 (l.foldl red a) p := by
  induction l with
  | nil => exact fun a => ⟨.inl rfl, Le2.refl a, fun p hp => absurd hp List.not_mem_nil⟩
  | cons b l ih =>
    intro a
    rw [List.foldl_cons]
    obtain ⟨hm, ha, hp⟩ := ih (red a b)
    obtain ⟨he, hl, hr⟩ := red_spec a b
    refine ⟨?_, ha.trans hl, ?_⟩
    · rcases hm with hm | hm
      · rcases he with he | he
        · exact .inl (hm.trans he)
        · exact .inr (by rw [hm, he]; exact List.mem_cons_self)
      · exact .inr (List.mem_cons_of_mem b hm)
    · intro p hpm
      rcases List.mem_cons.1 hpm with rfl | hpm
      · exact ha.trans hr
      · exact hp p hpm

/-- The fold, from the top at position 0, of a list holding exactly the row's pairs ends with the first minimiser's position. -/
theorem foldl_positions {f : Fin 1024 → EReal} {n : Fin 1024} (h : FirstMin f n) (l : List (EReal × BitVec 32))
    (hl : ∀ p, p ∈ l ↔ ∃ k : Fin 1024, p = (f k, BitVec.ofNat 32 k.val)) :
    (l.foldl red (⊤, 0#32)).2 = BitVec.ofNat 32 n.val := by
  obtain ⟨hm, -, hp⟩ := foldl_red l (⊤, 0#32)
  have hk : ∃ k : Fin 1024, l.foldl red (⊤, 0#32) = (f k, BitVec.ofNat 32 k.val) := by
    rcases hm with hm | hm
    · have h0 := hp _ ((hl _).2 ⟨0, rfl⟩)
      rw [hm] at h0
      rcases h0 with h0 | ⟨h0, -⟩
      · exact absurd h0 not_top_lt
      · refine ⟨0, hm.trans (Prod.ext h0 rfl)⟩
    · exact (hl _).1 hm
  obtain ⟨k, hk⟩ := hk
  have hmin : ∀ j, Le2 (f k, BitVec.ofNat 32 k.val) (f j, BitVec.ofNat 32 j.val) := fun j => hk ▸ hp _ ((hl _).2 ⟨j, rfl⟩)
  have hf : FirstMin f k := by
    refine ⟨fun j => ?_, fun j hj => ?_⟩
    · rcases hmin j with h | ⟨h, -⟩
      · exact le_of_lt h
      · exact le_of_eq h
    · rcases hmin j with h | ⟨-, h⟩
      · exact h
      · rw [toInt_ofNat, toInt_ofNat] at h
        exact absurd hj (not_lt.2 (by exact_mod_cast h))
  rw [hk, hf.unique h]

end Cert.Math

end
-- ==== Proof.KMath.lean ====
/-
  What one block of the kernel computes over the extended reals, entry by entry: the distances of its rows to the
  codebook's rows, the position of the nearest one, the one-hot rows and the rows looked up.
-/
module

public import proofs.«01_k».proof.Proof.Argmin
public import proofs.«01_k».proof.Proof.Gen.KernelIdeal.Skeleton
public import Idealize.ShloMosaic.Lib.MatmulPlain
public import Idealize.ShloMosaic.Lib.ValueIdx
public import Idealize.ShloMosaic.Lib.Pipeline.Value

@[expose] public section

noncomputable section

open Idealize.ShloMosaic Idealize.ShloMosaic.ValueIdx

namespace Cert.Math

/-- The distance of a row `x` of squared norm `a` to a codebook row `y` of squared norm `b`, as both programs compute it. -/
def distance (a b : EReal) (x y : Fin 32 → EReal) : EReal :=
  Ideal.sqrt (max (a + b - Ideal.ofBits .f32 0x40000000#32 * ∑ j, x j * y j) 0)

/-- The one-hot entry. -/
def oneHot (n k : Fin 1024) : EReal := if k = n then 1 else 0

/-- A sum against a one-hot row picks its entry. -/
theorem sum_oneHot (n : Fin 1024) (y : Fin 1024 → EReal) : ∑ k, oneHot n k * y k = y n := by
  rw [Finset.sum_eq_single n]
  · rw [oneHot, if_pos rfl, one_mul]
  · intro k _ hk; rw [oneHot, if_neg hk, zero_mul]
  · intro h; exact absurd (Finset.mem_univ n) h

end Cert.Math

namespace Cert.KernelIdeal.Val

open Cert.KernelIdeal Cert.KernelIdeal.Gen Cert.Math

variable (v0 : FVec Ideal S512x32 .f32) (v2 : FVec Ideal S1024x32 .f32) (v3 : FVec Ideal S512x1 .f32) (v5 : FVec Ideal S1x1024 .f32)

/-- A column read after the cast from its flat form. -/
theorem col_apply {α : Type} (x : S512.Idx → α) (r : Fin 512) : shapeCast S512x1 x shapeCasts_S512_S512x1 (ix2 r 0) = x (ix1 r) := by
  refine shapeCast_apply x _ _ _ ?_
  rw [Shape.rowMajor_val_one, Shape.rowMajor_val_two]
  show r.val = r.val * 1 + 0
  omega

/-- A column spread along its rows. -/
theorem spreadCol_apply {α : Type} (x : S512x1.Idx → α) (r : Fin 512) (k : Fin 1024) :
    broadcastTo S512x1024 x broadcasts_S512x1_S512x1024 (ix2 r k) = x (ix2 r 0) := by
  refine broadcastTo_apply x _ _ _ fun a => ?_
  match a with
  | ⟨0, _⟩ => rfl
  | ⟨1, _⟩ => rfl

/-- A row spread over the rows. -/
theorem spreadRow_apply {α : Type} (x : S1x1024.Idx → α) (r : Fin 512) (k : Fin 1024) :
    broadcastTo S512x1024 x broadcasts_S1x1024_S512x1024 (ix2 r k) = x (ix2 0 k) := by
  refine broadcastTo_apply x _ _ _ fun a => ?_
  match a with
  | ⟨0, _⟩ => rfl
  | ⟨1, _⟩ => rfl

/-- The block's distances. -/
def dB : FVec Ideal S512x1024 .f32 :=
  sqrt (maximumf (subf (addf (broadcastTo S512x1024 (shapeCast S512x1 v3 shapeCasts_S512x1_S512x1) broadcasts_S512x1_S512x1024)
      (broadcastTo S512x1024 (shapeCast S1x1024 v5 shapeCasts_S1x1024_S1x1024) broadcasts_S1x1024_S512x1024))
    (mulf (broadcast S512x1024 (Scalar.ofBits (F := Ideal) .f32 0x40000000#32))
      (matmul (F := Ideal) (φ₁ := .f32) (φ₂ := .f32) dot_S512x32_S1024x32_S512x1024_1_1_0_0_n_n none (k0_pay8 (F := Ideal) v0) v2 (constant S512x1024 .f32 0x00000000#32))))
    (broadcast S512x1024 (Scalar.ofBits (F := Ideal) .f32 0x00000000#32)))

/-- The block's products of its rows with the codebook's rows. -/
theorem product_apply (r : Fin 512) (k : Fin 1024) :
    matmul (F := Ideal) (φ₁ := .f32) (φ₂ := .f32) dot_S512x32_S1024x32_S512x1024_1_1_0_0_n_n none v0 v2 (constant S512x1024 .f32 0x00000000#32) (ix2 r k)
      = ∑ j : Fin 32, v0 (ix2 r j) * v2 (ix2 k j) := by
  refine (Ideal.matmul_transposedRhs_apply (M := 512) (K := 32) (N := 1024) none v0 v2 (constant S512x1024 .f32 0x00000000#32) r k).trans ?_
  show Ideal.ofBits .f32 0x00000000#32 + _ = _
  rw [Ideal.ofBits_zero_f32, zero_add]

/-- The block's distance at row `r` and codebook row `k`. -/
theorem dB_apply (r : Fin 512) (k : Fin 1024) :
    dB v0 v2 v3 v5 (ix2 r k) = distance (v3 (ix2 r 0)) (v5 (ix2 0 k)) (fun j => v0 (ix2 r j)) (fun j => v2 (ix2 k j)) := by
  have h8 : k0_pay8 (F := Ideal) v0 = v0 := shapeCast_self _ _
  unfold dB distance
  rw [h8, shapeCast_self, shapeCast_self]
  show Ideal.sqrt (max (broadcastTo S512x1024 v3 _ (ix2 r k) + broadcastTo S512x1024 v5 _ (ix2 r k)
    - Ideal.ofBits .f32 0x40000000#32 * matmul (F := Ideal) (φ₁ := .f32) (φ₂ := .f32) dot_S512x32_S1024x32_S512x1024_1_1_0_0_n_n none v0 v2 (constant S512x1024 .f32 0x00000000#32) (ix2 r k))
    (Ideal.ofBits .f32 0x00000000#32)) = _
  rw [spreadCol_apply, spreadRow_apply, product_apply, Ideal.ofBits_zero_f32]

/-- A row's indices in a block, from the coordinate along the row. -/
theorem lift_row (r : Fin 512) (k : Fin 1024) : reduces_S512x1024_S512.lift (ix1 r) k = ix2 r k := by
  funext a; apply Fin.ext
  match a with
  | ⟨0, _⟩ => rfl
  | ⟨1, _⟩ => rfl

/-- The positions along a block's rows. -/
theorem iota_row (r : Fin 512) (k : Fin 1024) : iota .tc S512x1024 32 [1] iota_S512x1024_d1_w32 (ix2 r k) = BitVec.ofNat 32 k.val :=
  iota_single_apply .tc S512x1024 32 1 _ _

/-- A block row's signed minimum is the fold over the row. -/
theorem rowMinI_apply (g : IVec S512x1024 32) (r : Fin 512) :
    multiReductionI .minsi [1] S512 g 2147483647#32 reduces_S512x1024_S512 rfl (ix1 r)
      = (Finset.univ : Finset (Fin 1024)).fold IntOp.minsi 2147483647#32 (fun k => g (ix2 r k)) := by
  refine (multiReductionI_eq_fold .minsi g 2147483647#32 _ rfl _).trans ?_
  rw [reduces_S512x1024_S512.fold_filter_drop_single]
  have e : (g ∘ reduces_S512x1024_S512.lift (ix1 r)) = fun k : Fin 1024 => g (ix2 r k) := funext fun k => congrArg g (lift_row r k)
  rw [e]
  rfl

/-- The least entry of each of a block's rows. -/
def rowMin (d : FVec Ideal S512x1024 .f32) : FVec Ideal S512 .f32 :=
  multiReduction .minimumf [1] S512 d 0x7F800000#32 reduces_S512x1024_S512 (.inl rfl) rfl

/-- The least of a block row's entries is its value at the first minimiser. -/
theorem rowMin_apply (d : FVec Ideal S512x1024 .f32) (r : Fin 512) {n : Fin 1024} (h : FirstMin (fun k => d (ix2 r k)) n) :
    rowMin d (ix1 r) = d (ix2 r n) := by
  refine (multiReduction_minimumf_eq_fold d _ _ _ _ _).trans ?_
  rw [reduces_S512x1024_S512.fold_filter_drop_single]
  have e : (d ∘ reduces_S512x1024_S512.lift (ix1 r)) = fun k : Fin 1024 => d (ix2 r k) := funext fun k => congrArg d (lift_row r k)
  rw [e]
  have ht : (FloatOps.ofBits .f32 0x7F800000#32 : Ideal .f32) = (⊤ : EReal) := by
    show Ideal.ofBits .f32 0x7F800000#32 = ⊤
    simp [Ideal.ofBits, Ideal.ieee]
  rw [ht]
  exact fold_min h

/-- The block's nearest positions. -/
theorem k0_pay9_apply (r : Fin 512) {n : Fin 1024} (h : FirstMin (fun k => dB v0 v2 v3 v5 (ix2 r k)) n) :
    k0_pay9 (F := Ideal) v0 v2 v3 v5 (ix1 r) = BitVec.ofNat 32 n.val := by
  have e : k0_pay9 (F := Ideal) v0 v2 v3 v5 = multiReductionI .minsi [1] S512
      (select (cmpf .oeq (dB v0 v2 v3 v5) (broadcastTo S512x1024 (shapeCast S512x1 (rowMin (dB v0 v2 v3 v5)) shapeCasts_S512_S512x1) broadcasts_S512x1_S512x1024))
        (iota .tc S512x1024 32 [1] iota_S512x1024_d1_w32) (broadcast S512x1024 1024#32)) 2147483647#32 reduces_S512x1024_S512 rfl := by
    unfold k0_pay9 rowMin dB
    rfl
  rw [e]
  refine (rowMinI_apply _ r).trans (fold_positions h _ fun k => ?_)
  have e2 : ∀ (M : FVec Ideal S512x1024 .f32) (I C : IVec S512x1024 32), select (cmpf .oeq (dB v0 v2 v3 v5) M) I C (ix2 r k)
    = Scalar.select (Ideal.cmp .oeq (dB v0 v2 v3 v5 (ix2 r k)) (M (ix2 r k))) (I (ix2 r k)) (C (ix2 r k)) := fun _ _ _ => rfl
  refine (e2 _ _ _).trans ?_
  rw [iota_row, spreadCol_apply, col_apply, rowMin_apply _ r h, broadcast_apply]
  unfold Ideal.cmp Scalar.select
  by_cases hk : dB v0 v2 v3 v5 (ix2 r k) = dB v0 v2 v3 v5 (ix2 r n)
  · simp [hk]
  · simp [hk]

/-- The block's one-hot rows. -/
theorem k0_pay10_apply (r : Fin 512) (k : Fin 1024) {n : Fin 1024} (h : FirstMin (fun k => dB v0 v2 v3 v5 (ix2 r k)) n) :
    k0_pay10 (F := Ideal) v0 v2 v3 v5 (ix2 r k) = oneHot n k := by
  have e : k0_pay10 (F := Ideal) v0 v2 v3 v5 = sitofp .f32 (extui 32 (cmpi .eq (iota .tc S512x1024 32 [1] iota_S512x1024_d1_w32)
      (broadcastTo S512x1024 (shapeCast S512x1 (k0_pay9 (F := Ideal) v0 v2 v3 v5) shapeCasts_S512_S512x1) broadcasts_S512x1_S512x1024)) natLt_1_32) := by
    unfold k0_pay10
    rfl
  have e2 : ∀ I J : IVec S512x1024 32, (sitofp .f32 (extui 32 (cmpi .eq I J) natLt_1_32) : FVec Ideal S512x1024 .f32) (ix2 r k)
    = FloatOps.sitofp (F := Ideal) .f32 ((IntOp.cmpi .eq (I (ix2 r k)) (J (ix2 r k))).setWidth 32) := fun _ _ => rfl
  rw [e]
  refine (e2 _ _).trans ?_
  rw [iota_row, spreadCol_apply, col_apply, k0_pay9_apply _ _ _ _ r h]
  unfold oneHot
  by_cases hk : k = n
  · subst hk
    rw [if_pos rfl, show IntOp.cmpi .eq (BitVec.ofNat 32 k.val) (BitVec.ofNat 32 k.val) = 1#1 by simp [IntOp.cmpi]]
    show (((1#32 : BitVec 32).toInt : ℝ) : EReal) = 1
    simp
  · have hne : ¬ BitVec.ofNat 32 k.val = BitVec.ofNat 32 n.val := fun h => hk (ofNat_inj h)
    rw [if_neg hk, show IntOp.cmpi .eq (BitVec.ofNat 32 k.val) (BitVec.ofNat 32 n.val) = 0#1 by
      simp only [IntOp.cmpi, beq_eq_false_iff_ne.2 hne]; rfl]
    show (((0#32 : BitVec 32).toInt : ℝ) : EReal) = 0
    simp

/-- The block's rows looked up. -/
theorem k0_pay11_apply (r : Fin 512) (l : Fin 32) {n : Fin 1024} (h : FirstMin (fun k => dB v0 v2 v3 v5 (ix2 r k)) n) :
    k0_pay11 (F := Ideal) v0 v2 v3 v5 (ix2 r l) = v2 (ix2 n l) := by
  refine (Ideal.matmul_plain_apply (M := 512) (K := 1024) (N := 32) none (k0_pay10 (F := Ideal) v0 v2 v3 v5) v2 (constant S512x32 .f32 0x00000000#32) r l).trans ?_
  show Ideal.ofBits .f32 0x00000000#32 + _ = _
  rw [Ideal.ofBits_zero_f32, zero_add, ← sum_oneHot n fun k => v2 (ix2 k l)]
  exact Finset.sum_congr rfl fun k _ => by rw [k0_pay10_apply _ _ _ _ r k h]

/-- The block's positions as a column. -/
theorem k0_pay12_apply (r : Fin 512) {n : Fin 1024} (h : FirstMin (fun k => dB v0 v2 v3 v5 (ix2 r k)) n) :
    k0_pay12 (F := Ideal) v0 v2 v3 v5 (ix2 r 0) = BitVec.ofNat 32 n.val := by
  unfold k0_pay12
  exact (col_apply _ r).trans (k0_pay9_apply _ _ _ _ r h)

end Cert.KernelIdeal.Val

end
-- ==== Proof.Near.lean ====
/-
  The nearest code of each of the 32768 rows, and the four blocked arrays the kernel leaves in terms of it.
-/
module

public import proofs.«01_k».proof.Proof.KRun
public import proofs.«01_k».proof.Proof.KMath
public import Idealize.ShloMosaic.Lib.Routing.Ops

@[expose] public section

noncomputable section

open Idealize.ShloMosaic Idealize.ShloMosaic.TcCoe Idealize.ShloMosaic.ValueIdx

namespace Cert.KernelIdeal.Val

open Cert.KernelIdeal Cert.KernelIdeal.Gen Cert.Math

/-- The distance of row `r` of the input to code `k`. -/
def D (z : FVec Ideal S1024x1024 .f32) (cb : FVec Ideal S1024x32 .f32) (r : Fin 32768) (k : Fin 1024) : EReal :=
  distance (zz (F := Ideal) z (ix2 r 0)) (cc (F := Ideal) cb (ix2 0 k)) (fun j => zf (F := Ideal) z (ix2 r j)) (fun j => cb (ix2 k j))

/-- The first code nearest to row `r`. -/
def near (z : FVec Ideal S1024x1024 .f32) (cb : FVec Ideal S1024x32 .f32) (r : Fin 32768) : Fin 1024 := (FirstMin.exists (D z cb r)).choose

/-- It is the first minimiser of the distances. -/
theorem near_spec (z : FVec Ideal S1024x1024 .f32) (cb : FVec Ideal S1024x32 .f32) (r : Fin 32768) : FirstMin (D z cb r) (near z cb r) :=
  (FirstMin.exists (D z cb r)).choose_spec

variable (m : (ℓ : Loc nD τ sig) → Buf (Elt Ideal) ℓ) (c : Dev nD)

/-- The nearest code of a row of the run's input. -/
abbrev nr (r : Fin 32768) : Fin 1024 := near (a0 m c) (a1 m c) r

/-- A block's distances are the rows' distances. -/
theorem dB_eq (t : Fin cfg0.N) (r : Fin 512) (k : Fin 1024) :
    dB (iblk m c 0 t) (iblk m c 1 t) (iblk m c 2 t) (iblk m c 3 t) (ix2 r k) = D (a0 m c) (a1 m c) (rowAt t r) k := by
  rw [dB_apply]
  unfold D
  rw [iblk2_apply m c t r 0, iblk3_apply m c t 0 k, entry_v3, entry_v6]
  have e0 : (fun j => (iblk m c 0 t : Vec Ideal S512x32 .f32) (ix2 r j)) = fun j => zf (a0 m c) (ix2 (rowAt t r) j) :=
    funext fun j => by rw [iblk0_apply m c t r j, entry_v0]
  have e1 : (fun j => (iblk m c 1 t : Vec Ideal S1024x32 .f32) (ix2 k j)) = fun j => a1 m c (ix2 k j) :=
    funext fun j => by rw [iblk1_apply m c t k j, V_main_arg1]
  exact congrArg₂ (distance _ _) e0 e1

/-- A block's rows have the first minimisers of the whole array's rows. -/
theorem near_block (t : Fin cfg0.N) (r : Fin 512) :
    FirstMin (fun k => dB (iblk m c 0 t) (iblk m c 1 t) (iblk m c 2 t) (iblk m c 3 t) (ix2 r k)) (nr m c (rowAt t r)) := by
  rw [show (fun k => dB (iblk m c 0 t) (iblk m c 1 t) (iblk m c 2 t) (iblk m c 3 t) (ix2 r k)) = D (a0 m c) (a1 m c) (rowAt t r) from
    funext fun k => dB_eq m c t r k]
  exact near_spec _ _ _

/-- A block's one-hot rows. -/
theorem ohB_apply (t : Fin cfg0.N) (r : Fin 512) (k : Fin 1024) : ohB m c t (ix2 r k) = oneHot (nr m c (rowAt t r)) k :=
  k0_pay10_apply _ _ _ _ r k (near_block m c t r)

/-- A block's looked-up rows. -/
theorem zqB_apply (t : Fin cfg0.N) (r : Fin 512) (l : Fin 32) : zqB m c t (ix2 r l) = a1 m c (ix2 (nr m c (rowAt t r)) l) := by
  refine (k0_pay11_apply _ _ _ _ r l (near_block m c t r)).trans ?_
  rw [iblk1_apply m c t _ l, V_main_arg1]

/-- A block's positions. -/
theorem idxB_apply (t : Fin cfg0.N) (r : Fin 512) : idxB m c t (ix2 r 0) = BitVec.ofNat 32 (nr m c (rowAt t r)).val :=
  k0_pay12_apply _ _ _ _ r (near_block m c t r)

/-- A row is the row of its block at its place. -/
theorem rowAt_ptOf (r : Fin 32768) : rowAt (ptOf r) (rowOf r) = r := Fin.ext (Nat.div_add_mod r.val 512)

/-- The one-hot array. -/
theorem G4_apply (r : Fin 32768) (k : Fin 1024) : (G4 m c : Vec Ideal S32768x1024 .f32) (ix2 r k) = oneHot (nr m c r) k := by
  show ohB m c (ptOf r) (ix2 (rowOf r) k) = _
  rw [ohB_apply, rowAt_ptOf]

/-- The looked-up array. -/
theorem G5_apply (r : Fin 32768) (l : Fin 32) : (G5 m c : Vec Ideal S32768x32 .f32) (ix2 r l) = a1 m c (ix2 (nr m c r) l) := by
  show zqB m c (ptOf r) (ix2 (rowOf r) l) = _
  rw [zqB_apply, rowAt_ptOf]

/-- The straight-through array. -/
theorem G6_apply (r : Fin 32768) (l : Fin 32) : (G6 m c : Vec Ideal S32768x32 .f32) (ix2 r l) = a1 m c (ix2 (nr m c r) l) := by
  show zqB m c (ptOf r) (ix2 (rowOf r) l) = _
  rw [zqB_apply, rowAt_ptOf]

/-- The index column. -/
theorem G7_apply (r : Fin 32768) : (G7 m c : Vec Ideal S32768x1 .i32) (ix2 r 0) = BitVec.ofNat 32 (nr m c r).val := by
  show idxB m c (ptOf r) (ix2 (rowOf r) 0) = _
  rw [idxB_apply, rowAt_ptOf]

/-- The rows' squared lengths, entry by entry. -/
theorem zz_apply (z : FVec Ideal S1024x1024 .f32) (r : Fin 32768) : zz (F := Ideal) z (ix2 r 0)
    = Host.reduceAdd (F := Ideal) (φ := .f32) (mulf (zf (F := Ideal) z) (zf (F := Ideal) z)) (constant S_ .f32 0x00000000#32) reducesTo_S32768x32_S32768_d1 h_S_ (ix1 r) :=
  Routing.bcCol (n := 32768) bcast_S32768_S32768x1_0 _ r

/-- The codes' squared lengths, entry by entry. -/
theorem cc_apply (cb : FVec Ideal S1024x32 .f32) (k : Fin 1024) : cc (F := Ideal) cb (ix2 0 k)
    = Host.reduceAdd (F := Ideal) (φ := .f32) (mulf cb cb) (constant S_ .f32 0x00000000#32) reducesTo_S1024x32_S1024_d1 h_S_ (ix1 k) :=
  Routing.cast12 (a := 1) (b := 1024) (n := 1024) _ shapeCasts_S1024_S1x1024 0 k k (by show k.val = 0 * 1024 + k.val; omega)

end Cert.KernelIdeal.Val

end
-- ==== Proof.RRun.lean ====
/-
  The reference's run, read back in stages: the distances, the arg-min, the one-hot encoding, the lookup, the losses and
  the perplexity, each a function of the contents before it.
-/
module

public import proofs.«01_k».proof.Proof.Gen.ReferenceIdeal
public import Idealize.ShloMosaic.Lib.StableHlo.Run
public import Idealize.ShloMosaic.Lib.StableHlo.RunRead

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The distances: operations up to `main_v18`. -/
abbrev opsA : List (HloOp τ sig (Elt F)) :=
  [ reshape main_arg0 main_v0 (rfl : (.f32 : EltTy) = .f32) shapeCasts_S1024x1024_S1024x32x32,
    reshape main_v0 main_v1 (rfl : (.f32 : EltTy) = .f32) shapeCasts_S1024x32x32_S32768x32,
    binary main_v1 main_v1 main_v2 (mulf : (⟨S32768x32, .f32⟩ : BufTy).Contents (Elt F) → (⟨S32768x32, .f32⟩ : BufTy).Contents (Elt F) → (⟨S32768x32, .f32⟩ : BufTy).Contents (Elt F)),
    nullary main_cst (constant S_ .f32 0x00000000#32),
    binary main_v2 main_cst main_v3 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg1 main_arg1 main_v5 (mulf : (⟨S1024x32, .f32⟩ : BufTy).Contents (Elt F) → (⟨S1024x32, .f32⟩ : BufTy).Contents (Elt F) → (⟨S1024x32, .f32⟩ : BufTy).Contents (Elt F)),
    nullary main_cst_0 (constant S_ .f32 0x00000000#32),
    binary main_v5 main_cst_0 main_v6 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S32768x1024 ![0, 1] bcast_S32768x1_S32768x1024_0_1 : (⟨S32768x1, .f32⟩ : BufTy).Contents (Elt F) → (⟨S32768x1024, .f32⟩ : BufTy).Contents (Elt F)),
    unary main_v7 main_v9 (broadcastInDim S32768x1024 ![0, 1] bcast_S1x1024_S32768x1024_0_1 : (⟨S1x1024, .f32⟩ : BufTy).Contents (Elt F) → (⟨S32768x1024, .f32⟩ : BufTy).Contents (Elt F)),
    binary main_v8 main_v9 main_v10 (addf : (⟨S32768x1024, .f32⟩ : BufTy).Contents (Elt F) → (⟨S32768x1024, .f32⟩ : BufTy).Contents (Elt F) → (⟨S32768x1024, .f32⟩ : BufTy).Contents (Elt F)),
    unary main_arg1 main_v11 ((transpose S32x1024 [1, 0] · transposes_S1024x32_S32x1024_1_0) : (⟨S1024x32, .f32⟩ : BufTy).Contents (Elt F) → (⟨S32x1024, .f32⟩ : BufTy).Contents (Elt F)),
    binary main_v1 main_v11 main_v12 ((fun l r => Host.dotGeneral dot_S32768x32_S32x1024_S32768x1024_1_0_0_1_n_n none l r) : (⟨S32768x32, .f32⟩ : BufTy).Contents (Elt F) → (⟨S32x1024, .f32⟩ : BufTy).Contents (Elt F) → (⟨S32768x1024, .f32⟩ : BufTy).Contents (Elt F)),
    nullary main_cst_1 (constant S_ .f32 0x40000000#32),
    unary main_cst_1 main_v13 (broadcastInDim S32768x1024 ![] bcast_S_S32768x1024 : (⟨S_, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v10 main_v14 main_v15 (subf : (⟨S32768x1024, .f32⟩ : BufTy).Contents (Elt F) → (⟨S32768x1024, .f32⟩ : BufTy).Contents (Elt F) → (⟨S32768x1024, .f32⟩ : BufTy).Contents (Elt F)),
    nullary main_cst_2 (constant S_ .f32 0x00000000#32),
    unary main_cst_2 main_v16 (broadcastInDim S32768x1024 ![] bcast_S_S32768x1024 : (⟨S_, .f32⟩ : BufTy).Contents (Elt F) → (⟨S32768x1024, .f32⟩ : BufTy).Contents (Elt F)),
    binary main_v15 main_v16 main_v17 (maximumf : (⟨S32768x1024, .f32⟩ : BufTy).Contents (Elt F) → (⟨S32768x1024, .f32⟩ : BufTy).Contents (Elt F) → (⟨S32768x1024, .f32⟩ : BufTy).Contents (Elt F)),
    unary main_v17 main_v18 (Host.sqrt : (⟨S32768x1024, .f32⟩ : BufTy).Contents (Elt F) → (⟨S32768x1024, .f32⟩ : BufTy).Contents (Elt F)) ]

/-- The arg-min: operations up to `main_v19`. -/
abbrev opsB : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v18) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v18) (TRef.of (T := ⟨S32768x1024, .i32⟩) main_call0_v0) (TRef.of (T := ⟨S_, .f32⟩) main_call0_cst) (TRef.of (T := ⟨S_, .i32⟩) main_call0_c) (TRef.of (T := ⟨S32768, .i32⟩) main_v19) (fun x y u v j => (Host.argReduce reducer_argmin_f32_i32 x y u v reducesTo_S32768x1024_S32768_d1 h_S_ j).2) ]

/-- The one-hot encoding: operations up to `main_v20`. -/
abbrev opsC : List (HloOp τ sig (Elt F)) :=
  [ TRef.unary (TRef.of (T := ⟨S32768, .i32⟩) main_v19) (TRef.of (T := ⟨S32768x1, .i32⟩) main_call1_v0) (broadcastInDim S32768x1 ![0] bcast_S32768_S32768x1_0),
    TRef.nullary (TRef.of (T := ⟨S1x1024, .i32⟩) main_call1_v1) (iotaInDim S1x1024 32 1),
    TRef.unary (TRef.of (T := ⟨S32768x1, .i32⟩) main_call1_v0) (TRef.of (T := ⟨S32768x1024, .i32⟩) main_call1_v2) (broadcastInDim S32768x1024 ![0, 1] bcast_S32768x1_S32768x1024_0_1),
    TRef.unary (TRef.of (T := ⟨S1x1024, .i32⟩) main_call1_v1) (TRef.of (T := ⟨S32768x1024, .i32⟩) main_call1_v3) (broadcastInDim S32768x1024 ![0, 1] bcast_S1x1024_S32768x1024_0_1),
    TRef.binary (TRef.of (T := ⟨S32768x1024, .i32⟩) main_call1_v2) (TRef.of (T := ⟨S32768x1024, .i32⟩) main_call1_v3) (TRef.of (T := ⟨S32768x1024, .i1⟩) main_call1_v4) (cmpi .eq),
    TRef.unary (TRef.of (T := ⟨S32768x1024, .i1⟩) main_call1_v4) (TRef.of (T := ⟨S32768x1024, .f32⟩) main_v20) (uitofp .f32) ]

/-- The lookup: operations up to `main_v21`. -/
abbrev opsD : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S32768, .i32⟩) main_call2_v0) (broadcastInDim S32768 ![] bcast_S_S32768),
    TRef.binary (TRef.of (T := ⟨S32768, .i32⟩) main_v19) (TRef.of (T := ⟨S32768, .i32⟩) main_call2_v0) (TRef.of (T := ⟨S32768, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S32768, .i32⟩) main_call2_v2) (broadcastInDim S32768 ![] bcast_S_S32768),
    TRef.binary (TRef.of (T := ⟨S32768, .i32⟩) main_v19) (TRef.of (T := ⟨S32768, .i32⟩) main_call2_v2) (TRef.of (T := ⟨S32768, .i32⟩) main_call2_v3) addi,
    TRef.ternary (TRef.of (T := ⟨S32768, .i1⟩) main_call2_v1) (TRef.of (T := ⟨S32768, .i32⟩) main_call2_v3) (TRef.of (T := ⟨S32768, .i32⟩) main_v19) (TRef.of (T := ⟨S32768, .i32⟩) main_call2_v4) select,
    TRef.unary (TRef.of (T := ⟨S32768, .i32⟩) main_call2_v4) (TRef.of (T := ⟨S32768x1, .i32⟩) main_call2_v5) (broadcastInDim S32768x1 ![0] bcast_S32768_S32768x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S32768x1, .i32⟩) main_call2_v6) (broadcastInDim S32768x1 ![] bcast_S_S32768x1),
    TRef.binary (TRef.of (T := ⟨S32768x1, .i32⟩) main_call2_v5) (TRef.of (T := ⟨S32768x1, .i32⟩) main_call2_v6) (TRef.of (T := ⟨S32768x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S32768x1, .i32⟩) main_call2_v9) (broadcastInDim S32768x1 ![0, 1] bcast_S1x1_S32768x1_0_1),
    TRef.binary (TRef.of (T := ⟨S32768x1, .i32⟩) main_call2_v5) (TRef.of (T := ⟨S32768x1, .i32⟩) main_call2_v9) (TRef.of (T := ⟨S32768x1, .i1⟩) main_call2_v10) (cmpi .sle),
    TRef.binary (TRef.of (T := ⟨S32768x1, .i1⟩) main_call2_v7) (TRef.of (T := ⟨S32768x1, .i1⟩) main_call2_v10) (TRef.of (T := ⟨S32768x1, .i1⟩) main_call2_v11) andi,
    TRef.nullary (TRef.of (T := ⟨S_, .i1⟩) main_call2_c_3) (constantI S_ 1 1#1),
    TRef.binary (TRef.of (T := ⟨S32768x1, .i1⟩) main_call2_v11) (TRef.of (T := ⟨S_, .i1⟩) main_call2_c_3) (TRef.of (T := ⟨S32768, .i1⟩) main_call2_v12) (fun x v => Host.reduce IntOp.andi x v reducesTo_S32768x1_S32768_d1 h_S_),
    TRef.binary (TRef.of (T := ⟨S1024x32, .f32⟩) main_arg1) (TRef.of (T := ⟨S32768x1, .i32⟩) main_call2_v5) (TRef.of (T := ⟨S32768x32, .f32⟩) main_call2_v13) (fun x i => Host.gather gather_S1024x32_S32768x1_S32768x32_1_0_n_n_0_1_132 x i),
    TRef.unary (TRef.of (T := ⟨S32768, .i1⟩) main_call2_v12) (TRef.of (T := ⟨S32768x32, .i1⟩) main_call2_v14) (broadcastInDim S32768x32 ![0] bcast_S32768_S32768x32_0),
    TRef.nullary (TRef.of (T := ⟨S_, .f32⟩) main_call2_cst) (constant S_ .f32 0x7FC00000#32),
    TRef.unary (TRef.of (T := ⟨S_, .f32⟩) main_call2_cst) (TRef.of (T := ⟨S32768x32, .f32⟩) main_call2_v15) (broadcastInDim S32768x32 ![] bcast_S_S32768x32),
    TRef.ternary (TRef.of (T := ⟨S32768x32, .i1⟩) main_call2_v14) (TRef.of (T := ⟨S32768x32, .f32⟩) main_call2_v13) (TRef.of (T := ⟨S32768x32, .f32⟩) main_call2_v15) (TRef.of (T := ⟨S32768x32, .f32⟩) main_v21) select ]

/-- The losses and the straight-through output: operations up to `main_v35`. -/
abbrev opsE : List (HloOp τ sig (Elt F)) :=
  [ reshape main_v21 main_v22 (rfl : (.f32 : EltTy) = .f32) shapeCasts_S32768x32_S1024x32x32,
    binary main_v22 main_v0 main_v23 (subf : (⟨S1024x32x32, .f32⟩ : BufTy).Contents (Elt F) → (⟨S1024x32x32, .f32⟩ : BufTy).Contents (Elt F) → (⟨S1024x32x32, .f32⟩ : BufTy).Contents (Elt F)),
    binary main_v23 main_v23 main_v24 (mulf : (⟨S1024x32x32, .f32⟩ : BufTy).Contents (Elt F) → (⟨S1024x32x32, .f32⟩ : BufTy).Contents (Elt F) → (⟨S1024x32x32, .f32⟩ : BufTy).Contents (Elt F)),
    nullary main_cst_3 (constant S_ .f32 0x00000000#32),
    binary main_v24 main_cst_3 main_v25 ((fun x v => Host.reduceAdd x v reducesTo_S1024x32x32_S_d0_1_2 h_S_) : (⟨S1024x32x32, .f32⟩ : BufTy).Contents (Elt F) → (⟨S_, .f32⟩ : BufTy).Contents (Elt F) → (⟨S_, .f32⟩ : BufTy).Contents (Elt F)),
    nullary main_cst_4 (constant S_ .f32 0x49800000#32),
    binary main_v25 main_cst_4 main_v26 (Host.divf : (⟨S_, .f32⟩ : BufTy).Contents (Elt F) → (⟨S_, .f32⟩ : BufTy).Contents (Elt F) → (⟨S_, .f32⟩ : BufTy).Contents (Elt F)),
    binary main_v22 main_v0 main_v27 (subf : (⟨S1024x32x32, .f32⟩ : BufTy).Contents (Elt F) → (⟨S1024x32x32, .f32⟩ : BufTy).Contents (Elt F) → (⟨S1024x32x32, .f32⟩ : BufTy).Contents (Elt F)),
    binary main_v27 main_v27 main_v28 (mulf : (⟨S1024x32x32, .f32⟩ : BufTy).Contents (Elt F) → (⟨S1024x32x32, .f32⟩ : BufTy).Contents (Elt F) → (⟨S1024x32x32, .f32⟩ : BufTy).Contents (Elt F)),
    nullary main_cst_5 (constant S_ .f32 0x00000000#32),
    binary main_v28 main_cst_5 main_v29 ((fun x v => Host.reduceAdd x v reducesTo_S1024x32x32_S_d0_1_2 h_S_) : (⟨S1024x32x32, .f32⟩ : BufTy).Contents (Elt F) → (⟨S_, .f32⟩ : BufTy).Contents (Elt F) → (⟨S_, .f32⟩ : BufTy).Contents (Elt F)),
    nullary main_cst_6 (constant S_ .f32 0x49800000#32),
    binary main_v29 main_cst_6 main_v30 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v26 main_v31 (mulf : (⟨S_, .f32⟩ : BufTy).Contents (Elt F) → (⟨S_, .f32⟩ : BufTy).Contents (Elt F) → (⟨S_, .f32⟩ : BufTy).Contents (Elt F)),
    nullary main_cst_8 (constant S_ .f32 0x3E800000#32),
    binary main_cst_8 main_v30 main_v32 (mulf : (⟨S_, .f32⟩ : BufTy).Contents (Elt F) → (⟨S_, .f32⟩ : BufTy).Contents (Elt F) → (⟨S_, .f32⟩ : BufTy).Contents (Elt F)),
    binary main_v31 main_v32 main_v33 (addf : (⟨S_, .f32⟩ : BufTy).Contents (Elt F) → (⟨S_, .f32⟩ : BufTy).Contents (Elt F) → (⟨S_, .f32⟩ : BufTy).Contents (Elt F)),
    binary main_v22 main_v0 main_v34 (subf : (⟨S1024x32x32, .f32⟩ : BufTy).Contents (Elt F) → (⟨S1024x32x32, .f32⟩ : BufTy).Contents (Elt F) → (⟨S1024x32x32, .f32⟩ : BufTy).Contents (Elt F)),
    binary main_v0 main_v34 main_v35 (addf : (⟨S1024x32x32, .f32⟩ : BufTy).Contents (Elt F) → (⟨S1024x32x32, .f32⟩ : BufTy).Contents (Elt F) → (⟨S1024x32x32, .f32⟩ : BufTy).Contents (Elt F)) ]

/-- The perplexity and the two reshaped results. -/
abbrev opsF : List (HloOp τ sig (Elt F)) :=
  [ nullary main_cst_9 (constant S_ .f32 0x00000000#32),
    binary main_v20 main_cst_9 main_v36 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    nullary main_cst_10 (constant S_ .f32 0x47000000#32),
    unary main_cst_10 main_v37 (broadcastInDim S1024 ![] bcast_S_S1024 : (⟨S_, .f32⟩ : BufTy).Contents (Elt F) → (⟨S1024, .f32⟩ : BufTy).Contents (Elt F)),
    binary main_v36 main_v37 main_v38 (Host.divf : (⟨S1024, .f32⟩ : BufTy).Contents (Elt F) → (⟨S1024, .f32⟩ : BufTy).Contents (Elt F) → (⟨S1024, .f32⟩ : BufTy).Contents (Elt F)),
    nullary main_cst_11 (constant S_ .f32 0x2EDBE6FF#32),
    unary main_cst_11 main_v39 (broadcastInDim S1024 ![] bcast_S_S1024 : (⟨S_, .f32⟩ : BufTy).Contents (Elt F) → (⟨S1024, .f32⟩ : BufTy).Contents (Elt F)),
    binary main_v38 main_v39 main_v40 (addf : (⟨S1024, .f32⟩ : BufTy).Contents (Elt F) → (⟨S1024, .f32⟩ : BufTy).Contents (Elt F) → (⟨S1024, .f32⟩ : BufTy).Contents (Elt F)),
    unary main_v40 main_v41 (Host.log : (⟨S1024, .f32⟩ : BufTy).Contents (Elt F) → (⟨S1024, .f32⟩ : BufTy).Contents (Elt F)),
    binary main_v38 main_v41 main_v42 (mulf : (⟨S1024, .f32⟩ : BufTy).Contents (Elt F) → (⟨S1024, .f32⟩ : BufTy).Contents (Elt F) → (⟨S1024, .f32⟩ : BufTy).Contents (Elt F)),
    nullary main_cst_12 (constant S_ .f32 0x00000000#32),
    binary main_v42 main_cst_12 main_v43 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v43 main_v44 (Host.negf : (⟨S_, .f32⟩ : BufTy).Contents (Elt F) → (⟨S_, .f32⟩ : BufTy).Contents (Elt F)),
    unary main_v44 main_v45 (Host.exp : (⟨S_, .f32⟩ : BufTy).Contents (Elt F) → (⟨S_, .f32⟩ : BufTy).Contents (Elt F)),
    reshape main_v35 main_v46 (rfl : (.f32 : EltTy) = .f32) shapeCasts_S1024x32x32_S1024x1024,
    reshape main_v19 main_v47 (rfl : (.i32 : EltTy) = .i32) shapeCasts_S32768_S32768x1 ]

/-- The reference's operations, in order. -/
abbrev ops : List (HloOp τ sig (Elt F)) := opsA ++ (opsB ++ (opsC ++ (opsD ++ (opsE ++ opsF))))

set_option maxRecDepth 16384 in
set_option maxHeartbeats 8000000 in
/-- The reference is these operations in order. -/
theorem main_eq (c : Dev nD) : main (F := F) c = seq ops := rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

set_option maxRecDepth 16384 in
/-- Each operation names buffers of the device's. -/
theorem ops_sub : (ops : List (HloOp τ sig (Elt F))).Forall fun op => op.bufs ⊆ tcRefs τ sig :=
  ⟨reshape_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., reshape_bufs_sub .., reshape_bufs_sub ..⟩

/-- Operations run in two parts. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- What the operations of `opsA` write. -/
abbrev WA : List (Ref sig .tc) := [main_v0, main_v1, main_v2, main_cst, main_v3, main_v4, main_v5, main_cst_0, main_v6, main_v7, main_v8, main_v9, main_v10, main_v11, main_v12, main_cst_1, main_v13, main_v14, main_v15, main_cst_2, main_v16, main_v17, main_v18]

/-- `opsA` leaves every other buffer as it was. -/
theorem keepA {r : Ref sig .tc} (hr : r ∉ WA) (V : Valuation τ sig (Elt F)) :
    after opsA V (Proc.devRef .tc r) = V (Proc.devRef .tc r) :=
  after_unwritten WA rfl hr V

/-- What the operations of `opsB` write. -/
abbrev WB : List (Ref sig .tc) := [main_call0_v0, main_call0_cst, main_call0_c, main_call0_v1_0, main_v19]

/-- `opsB` leaves every other buffer as it was. -/
theorem keepB {r : Ref sig .tc} (hr : r ∉ WB) (V : Valuation τ sig (Elt F)) :
    after opsB V (Proc.devRef .tc r) = V (Proc.devRef .tc r) :=
  after_unwritten WB rfl hr V

/-- What the operations of `opsC` write. -/
abbrev WC : List (Ref sig .tc) := [main_call1_v0, main_call1_v1, main_call1_v2, main_call1_v3, main_call1_v4, main_v20]

/-- `opsC` leaves every other buffer as it was. -/
theorem keepC {r : Ref sig .tc} (hr : r ∉ WC) (V : Valuation τ sig (Elt F)) :
    after opsC V (Proc.devRef .tc r) = V (Proc.devRef .tc r) :=
  after_unwritten WC rfl hr V

/-- What the operations of `opsD` write. -/
abbrev WD : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v21]

/-- `opsD` leaves every other buffer as it was. -/
theorem keepD {r : Ref sig .tc} (hr : r ∉ WD) (V : Valuation τ sig (Elt F)) :
    after opsD V (Proc.devRef .tc r) = V (Proc.devRef .tc r) :=
  after_unwritten WD rfl hr V

/-- What the operations of `opsE` write. -/
abbrev WE : List (Ref sig .tc) := [main_v22, main_v23, main_v24, main_cst_3, main_v25, main_cst_4, main_v26, main_v27, main_v28, main_cst_5, main_v29, main_cst_6, main_v30, main_cst_7, main_v31, main_cst_8, main_v32, main_v33, main_v34, main_v35]

/-- `opsE` leaves every other buffer as it was. -/
theorem keepE {r : Ref sig .tc} (hr : r ∉ WE) (V : Valuation τ sig (Elt F)) :
    after opsE V (Proc.devRef .tc r) = V (Proc.devRef .tc r) :=
  after_unwritten WE rfl hr V

/-- What the operations of `opsF` write. -/
abbrev WF : List (Ref sig .tc) := [main_cst_9, main_v36, main_cst_10, main_v37, main_v38, main_cst_11, main_v39, main_v40, main_v41, main_v42, main_cst_12, main_v43, main_v44, main_v45, main_v46, main_v47]

/-- `opsF` leaves every other buffer as it was. -/
theorem keepF {r : Ref sig .tc} (hr : r ∉ WF) (V : Valuation τ sig (Elt F)) :
    after opsF V (Proc.devRef .tc r) = V (Proc.devRef .tc r) :=
  after_unwritten WF rfl hr V

/-- The input as 32 × 32 rows per image. -/
def zr (z : Vec F S1024x1024 .f32) : Vec F S1024x32x32 .f32 := shapeCast S1024x32x32 z shapeCasts_S1024x1024_S1024x32x32
/-- The input as 32768 rows. -/
def zf (z : Vec F S1024x1024 .f32) : Vec F S32768x32 .f32 := shapeCast S32768x32 (zr z) shapeCasts_S1024x32x32_S32768x32
/-- The distances of every row to every code. -/
def dist (z : Vec F S1024x1024 .f32) (cb : Vec F S1024x32 .f32) : Vec F S32768x1024 .f32 :=
  Host.sqrt (maximumf (subf (addf
      (broadcastInDim S32768x1024 ![0, 1] bcast_S32768x1_S32768x1024_0_1 (broadcastInDim S32768x1 ![0] bcast_S32768_S32768x1_0
        (Host.reduceAdd (mulf (zf z) (zf z)) (constant S_ .f32 0x00000000#32) reducesTo_S32768x32_S32768_d1 h_S_)))
      (broadcastInDim S32768x1024 ![0, 1] bcast_S1x1024_S32768x1024_0_1 (broadcastInDim S1x1024 ![1] bcast_S1024_S1x1024_1
        (Host.reduceAdd (mulf cb cb) (constant S_ .f32 0x00000000#32) reducesTo_S1024x32_S1024_d1 h_S_))))
    (mulf (broadcastInDim S32768x1024 ![] bcast_S_S32768x1024 (constant S_ .f32 0x40000000#32))
      (Host.dotGeneral dot_S32768x32_S32x1024_S32768x1024_1_0_0_1_n_n none (zf z) (transpose S32x1024 [1, 0] cb transposes_S1024x32_S32x1024_1_0))))
    (broadcastInDim S32768x1024 ![] bcast_S_S32768x1024 (constant S_ .f32 0x00000000#32)))
/-- The nearest code's index, row by row. -/
def amin (d : Vec F S32768x1024 .f32) : Vec F S32768 .i32 := fun j =>
  (Host.argReduce reducer_argmin_f32_i32 d (iotaInDim S32768x1024 32 1) (constant S_ .f32 0x7F800000#32) (constantI S_ 32 0#32) reducesTo_S32768x1024_S32768_d1 h_S_ j).2
/-- The one-hot rows of the indices. -/
def hot (i : Vec F S32768 .i32) : Vec F S32768x1024 .f32 :=
  uitofp .f32 (cmpi .eq (broadcastInDim S32768x1024 ![0, 1] bcast_S32768x1_S32768x1024_0_1 (broadcastInDim S32768x1 ![0] bcast_S32768_S32768x1_0 i))
    (broadcastInDim S32768x1024 ![0, 1] bcast_S1x1024_S32768x1024_0_1 (iotaInDim S1x1024 32 1)))
/-- The indices the lookup reads, negative ones counted from the end. -/
def wrap (i : Vec F S32768 .i32) : Vec F S32768x1 .i32 :=
  broadcastInDim S32768x1 ![0] bcast_S32768_S32768x1_0
    (select (cmpi .slt i (broadcastInDim S32768 ![] bcast_S_S32768 (constantI S_ 32 0#32))) (addi i (broadcastInDim S32768 ![] bcast_S_S32768 (constantI S_ 32 1024#32))) i)
/-- Whether the lookup's index is in range. -/
def okR (w : Vec F S32768x1 .i32) : Vec F S32768 .i1 :=
  Host.reduce IntOp.andi (andi (cmpi .sge w (broadcastInDim S32768x1 ![] bcast_S_S32768x1 (constantI S_ 32 0#32)))
      (cmpi .sle w (broadcastInDim S32768x1 ![0, 1] bcast_S1x1_S32768x1_0_1 (broadcastInDim S1x1 ![1] bcast_S1_S1x1_1 (constantI S1 32 1023#32)))))
    (constantI S_ 1 1#1) reducesTo_S32768x1_S32768_d1 h_S_
/-- The looked-up rows. -/
def look (cb : Vec F S1024x32 .f32) (i : Vec F S32768 .i32) : Vec F S32768x32 .f32 :=
  select (broadcastInDim S32768x32 ![0] bcast_S32768_S32768x32_0 (okR (F := F) (wrap i)))
    (Host.gather gather_S1024x32_S32768x1_S32768x32_1_0_n_n_0_1_132 cb (wrap i))
    (broadcastInDim S32768x32 ![] bcast_S_S32768x32 (constant S_ .f32 0x7FC00000#32))
/-- The difference of the looked-up rows and the input. -/
def diff (q : Vec F S32768x32 .f32) (x : Vec F S1024x32x32 .f32) : Vec F S1024x32x32 .f32 :=
  subf (shapeCast S1024x32x32 q shapeCasts_S32768x32_S1024x32x32) x
/-- The mean square of the difference. -/
def mse (q : Vec F S32768x32 .f32) (x : Vec F S1024x32x32 .f32) : Vec F S_ .f32 :=
  Host.divf (Host.reduceAdd (mulf (diff q x) (diff q x)) (constant S_ .f32 0x00000000#32) reducesTo_S1024x32x32_S_d0_1_2 h_S_) (constant S_ .f32 0x49800000#32)
/-- The loss: the codebook loss and a quarter of the commitment loss. -/
def loss (q : Vec F S32768x32 .f32) (x : Vec F S1024x32x32 .f32) : Vec F S_ .f32 :=
  addf (mulf (constant S_ .f32 0x3F800000#32) (mse q x)) (mulf (constant S_ .f32 0x3E800000#32) (mse q x))
/-- The straight-through output. -/
def thru (q : Vec F S32768x32 .f32) (x : Vec F S1024x32x32 .f32) : Vec F S1024x32x32 .f32 := addf x (diff q x)
/-- How often each code is used. -/
def freq (h : Vec F S32768x1024 .f32) : Vec F S1024 .f32 :=
  Host.divf (Host.reduceAdd h (constant S_ .f32 0x00000000#32) reducesTo_S32768x1024_S1024_d0 h_S_) (broadcastInDim S1024 ![] bcast_S_S1024 (constant S_ .f32 0x47000000#32))
/-- The perplexity of the codes' use. -/
def perp (h : Vec F S32768x1024 .f32) : Vec F S_ .f32 :=
  Host.exp (Host.negf (Host.reduceAdd (mulf (freq h) (Host.log (addf (freq h) (broadcastInDim S1024 ![] bcast_S_S1024 (constant S_ .f32 0x2EDBE6FF#32)))))
    (constant S_ .f32 0x00000000#32) reducesTo_S1024_S_d0 h_S_))

set_option maxRecDepth 8192 in
set_option maxHeartbeats 4000000 in
/-- The first stage leaves the input as rows per image. -/
theorem A_v0 (V : Valuation τ sig (Elt F)) : after opsA V (Proc.devRef .tc main_v0) = zr (V (Proc.devRef .tc main_arg0)) := by
  simp only [opsA, TRef.binary, TRef.nullary, TRef.ternary, TRef.unary, TRef.quaternary, TRef.toBuf, TRef.ofBuf, cast_eq]; after_results_simp <;> rfl

set_option maxRecDepth 8192 in
set_option maxHeartbeats 4000000 in
/-- The first stage leaves the distances. -/
theorem A_v18 (V : Valuation τ sig (Elt F)) : after opsA V (Proc.devRef .tc main_v18) = dist (V (Proc.devRef .tc main_arg0)) (V (Proc.devRef .tc main_arg1)) := by
  simp only [opsA, TRef.binary, TRef.nullary, TRef.ternary, TRef.unary, TRef.quaternary, TRef.toBuf, TRef.ofBuf, cast_eq]; after_results_simp <;> rfl

set_option maxRecDepth 8192 in
set_option maxHeartbeats 4000000 in
/-- The second stage leaves the indices. -/
theorem B_v19 (V : Valuation τ sig (Elt F)) : after opsB V (Proc.devRef .tc main_v19) = amin (V (Proc.devRef .tc main_v18)) := by
  simp only [opsB, TRef.binary, TRef.nullary, TRef.ternary, TRef.unary, TRef.quaternary, TRef.toBuf, TRef.ofBuf, cast_eq]; after_results_simp <;> rfl

set_option maxRecDepth 8192 in
set_option maxHeartbeats 4000000 in
/-- The third stage leaves the one-hot rows. -/
theorem C_v20 (V : Valuation τ sig (Elt F)) : after opsC V (Proc.devRef .tc main_v20) = hot (F := F) (V (Proc.devRef .tc main_v19)) := by
  simp only [opsC, TRef.binary, TRef.nullary, TRef.ternary, TRef.unary, TRef.quaternary, TRef.toBuf, TRef.ofBuf, cast_eq]; after_results_simp <;> rfl

set_option maxRecDepth 8192 in
set_option maxHeartbeats 4000000 in
/-- The fourth stage leaves the looked-up rows. -/
theorem D_v21 (V : Valuation τ sig (Elt F)) : after opsD V (Proc.devRef .tc main_v21) = look (V (Proc.devRef .tc main_arg1)) (V (Proc.devRef .tc main_v19)) := by
  simp only [opsD, TRef.binary, TRef.nullary, TRef.ternary, TRef.unary, TRef.quaternary, TRef.toBuf, TRef.ofBuf, cast_eq]; after_results_simp <;> rfl

set_option maxRecDepth 8192 in
set_option maxHeartbeats 4000000 in
/-- The fifth stage leaves the codebook loss. -/
theorem E_v26 (V : Valuation τ sig (Elt F)) : after opsE V (Proc.devRef .tc main_v26) = mse (V (Proc.devRef .tc main_v21)) (V (Proc.devRef .tc main_v0)) := by
  simp only [opsE, TRef.binary, TRef.nullary, TRef.ternary, TRef.unary, TRef.quaternary, TRef.toBuf, TRef.ofBuf, cast_eq]; after_results_simp <;> rfl

set_option maxRecDepth 8192 in
set_option maxHeartbeats 4000000 in
/-- The fifth stage leaves the commitment loss. -/
theorem E_v30 (V : Valuation τ sig (Elt F)) : after opsE V (Proc.devRef .tc main_v30) = mse (V (Proc.devRef .tc main_v21)) (V (Proc.devRef .tc main_v0)) := by
  simp only [opsE, TRef.binary, TRef.nullary, TRef.ternary, TRef.unary, TRef.quaternary, TRef.toBuf, TRef.ofBuf, cast_eq]; after_results_simp <;> rfl

set_option maxRecDepth 8192 in
set_option maxHeartbeats 4000000 in
/-- The fifth stage leaves the loss. -/
theorem E_v33 (V : Valuation τ sig (Elt F)) : after opsE V (Proc.devRef .tc main_v33) = loss (V (Proc.devRef .tc main_v21)) (V (Proc.devRef .tc main_v0)) := by
  simp only [opsE, TRef.binary, TRef.nullary, TRef.ternary, TRef.unary, TRef.quaternary, TRef.toBuf, TRef.ofBuf, cast_eq]; after_results_simp <;> rfl

set_option maxRecDepth 8192 in
set_option maxHeartbeats 4000000 in
/-- The fifth stage leaves the straight-through output. -/
theorem E_v35 (V : Valuation τ sig (Elt F)) : after opsE V (Proc.devRef .tc main_v35) = thru (V (Proc.devRef .tc main_v21)) (V (Proc.devRef .tc main_v0)) := by
  simp only [opsE, TRef.binary, TRef.nullary, TRef.ternary, TRef.unary, TRef.quaternary, TRef.toBuf, TRef.ofBuf, cast_eq]; after_results_simp <;> rfl

set_option maxRecDepth 8192 in
set_option maxHeartbeats 4000000 in
/-- The last stage leaves the perplexity. -/
theorem F_v45 (V : Valuation τ sig (Elt F)) : after opsF V (Proc.devRef .tc main_v45) = perp (V (Proc.devRef .tc main_v20)) := by
  simp only [opsF, TRef.binary, TRef.nullary, TRef.ternary, TRef.unary, TRef.quaternary, TRef.toBuf, TRef.ofBuf, cast_eq]; after_results_simp <;> rfl

set_option maxRecDepth 8192 in
set_option maxHeartbeats 4000000 in
/-- The last stage leaves the straight-through output by images. -/
theorem F_v46 (V : Valuation τ sig (Elt F)) : after opsF V (Proc.devRef .tc main_v46) = shapeCast S1024x1024 (V (Proc.devRef .tc main_v35)) shapeCasts_S1024x32x32_S1024x1024 := by
  simp only [opsF, TRef.binary, TRef.nullary, TRef.ternary, TRef.unary, TRef.quaternary, TRef.toBuf, TRef.ofBuf, cast_eq]; after_results_simp <;> rfl

set_option maxRecDepth 8192 in
set_option maxHeartbeats 4000000 in
/-- The last stage leaves the indices as a column. -/
theorem F_v47 (V : Valuation τ sig (Elt F)) : after opsF V (Proc.devRef .tc main_v47) = shapeCast S32768x1 (V (Proc.devRef .tc main_v19)) shapeCasts_S32768_S32768x1 := by
  simp only [opsF, TRef.binary, TRef.nullary, TRef.ternary, TRef.unary, TRef.quaternary, TRef.toBuf, TRef.ofBuf, cast_eq]; after_results_simp <;> rfl

variable (m : (ℓ : Loc nD τ sig) → Buf (Elt F) ℓ)

/-- The input. -/
abbrev a0 (c : Dev nD) : Vec F S1024x1024 .f32 := m ((c.tc : Thread nD τ).loc main_arg0)
/-- The codebook. -/
abbrev a1 (c : Dev nD) : Vec F S1024x32 .f32 := m ((c.tc : Thread nD τ).loc main_arg1)
/-- The indices of the run. -/
def rIdx (c : Dev nD) : Vec F S32768 .i32 := amin (dist (a0 m c) (a1 m c))
/-- The looked-up rows of the run. -/
def rQ (c : Dev nD) : Vec F S32768x32 .f32 := look (a1 m c) (rIdx m c)

/-- The contents the run ends with. -/
abbrev fin (c : Dev nD) : Valuation τ sig (Elt F) := after ops fun b => m (c, b)

/-- The eighth result: the indices as a column. -/
theorem fin_v47 (c : Dev nD) : fin m c (Proc.devRef .tc main_v47) = shapeCast S32768x1 (rIdx m c) shapeCasts_S32768_S32768x1 := by
  unfold fin ops
  rw [after_two, after_two, after_two, after_two, after_two]
  rw [F_v47, keepE (by decide), keepD (by decide), keepC (by decide), B_v19, A_v18]
  rfl

/-- The seventh result: the one-hot rows. -/
theorem fin_v20 (c : Dev nD) : fin m c (Proc.devRef .tc main_v20) = hot (F := F) (rIdx m c) := by
  unfold fin ops
  rw [after_two, after_two, after_two, after_two, after_two]
  rw [keepF (by decide), keepE (by decide), keepD (by decide), C_v20, B_v19, A_v18]
  rfl

/-- The sixth result: the perplexity. -/
theorem fin_v45 (c : Dev nD) : fin m c (Proc.devRef .tc main_v45) = perp (hot (F := F) (rIdx m c)) := by
  unfold fin ops
  rw [after_two, after_two, after_two, after_two, after_two]
  rw [F_v45, keepE (by decide), keepD (by decide), C_v20, B_v19, A_v18]
  rfl

/-- The looked-up rows before the fifth stage. -/
theorem mid_v21 (c : Dev nD) : after opsD (after opsC (after opsB (after opsA fun b => m (c, b)))) (Proc.devRef .tc main_v21) = rQ m c := by
  rw [D_v21, keepC (by decide), keepB (by decide), keepA (by decide), keepC (by decide), B_v19, A_v18]
  rfl

/-- The input's rows before the fifth stage. -/
theorem mid_v0 (c : Dev nD) : after opsD (after opsC (after opsB (after opsA fun b => m (c, b)))) (Proc.devRef .tc main_v0) = zr (a0 m c) := by
  rw [keepD (by decide), keepC (by decide), keepB (by decide), A_v0]

/-- The first result: the loss. -/
theorem fin_v33 (c : Dev nD) : fin m c (Proc.devRef .tc main_v33) = loss (rQ m c) (zr (a0 m c)) := by
  unfold fin ops
  rw [after_two, after_two, after_two, after_two, after_two]
  rw [keepF (by decide), E_v33, mid_v21, mid_v0]

/-- The second result: the codebook loss. -/
theorem fin_v26 (c : Dev nD) : fin m c (Proc.devRef .tc main_v26) = mse (rQ m c) (zr (a0 m c)) := by
  unfold fin ops
  rw [after_two, after_two, after_two, after_two, after_two]
  rw [keepF (by decide), E_v26, mid_v21, mid_v0]

/-- The third result: the commitment loss. -/
theorem fin_v30 (c : Dev nD) : fin m c (Proc.devRef .tc main_v30) = mse (rQ m c) (zr (a0 m c)) := by
  unfold fin ops
  rw [after_two, after_two, after_two, after_two, after_two]
  rw [keepF (by decide), E_v30, mid_v21, mid_v0]

/-- The fourth result: the straight-through output. -/
theorem fin_v35 (c : Dev nD) : fin m c (Proc.devRef .tc main_v35) = thru (rQ m c) (zr (a0 m c)) := by
  unfold fin ops
  rw [after_two, after_two, after_two, after_two, after_two]
  rw [keepF (by decide), E_v35, mid_v21, mid_v0]

/-- The fifth result: the straight-through output by images. -/
theorem fin_v46 (c : Dev nD) : fin m c (Proc.devRef .tc main_v46) = shapeCast S1024x1024 (thru (rQ m c) (zr (a0 m c))) shapeCasts_S1024x32x32_S1024x1024 := by
  unfold fin ops
  rw [after_two, after_two, after_two, after_two, after_two]
  rw [F_v46, E_v35, mid_v21, mid_v0]

/-- An argument is unchanged. -/
theorem fin_arg0 (c : Dev nD) : fin m c (Proc.devRef .tc main_arg0) = m ((c.tc : Thread nD τ).loc main_arg0) := by
  unfold fin ops
  rw [after_two, after_two, after_two, after_two, after_two]
  rw [keepF (by decide), keepE (by decide), keepD (by decide), keepC (by decide), keepB (by decide), keepA (by decide)]

/-- An argument is unchanged. -/
theorem fin_arg1 (c : Dev nD) : fin m c (Proc.devRef .tc main_arg1) = m ((c.tc : Thread nD τ).loc main_arg1) := by
  unfold fin ops
  rw [after_two, after_two, after_two, after_two, after_two]
  rw [keepF (by decide), keepE (by decide), keepD (by decide), keepC (by decide), keepB (by decide), keepA (by decide)]

/-- Every run of the reference ends with each result at its stage's function of the arguments, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v33) = loss (rQ m c) (zr (a0 m c))
      ∧ r.2.mem ((c.tc : Thread nD τ).loc main_v26) = mse (rQ m c) (zr (a0 m c))
      ∧ r.2.mem ((c.tc : Thread nD τ).loc main_v30) = mse (rQ m c) (zr (a0 m c))
      ∧ r.2.mem ((c.tc : Thread nD τ).loc main_v35) = thru (rQ m c) (zr (a0 m c))
      ∧ r.2.mem ((c.tc : Thread nD τ).loc main_v46) = shapeCast S1024x1024 (thru (rQ m c) (zr (a0 m c))) shapeCasts_S1024x32x32_S1024x1024
      ∧ r.2.mem ((c.tc : Thread nD τ).loc main_v45) = perp (hot (F := F) (rIdx m c))
      ∧ r.2.mem ((c.tc : Thread nD τ).loc main_v20) = hot (F := F) (rIdx m c)
      ∧ r.2.mem ((c.tc : Thread nD τ).loc main_v47) = shapeCast S32768x1 (rIdx m c) shapeCasts_S32768_S32768x1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v33).trans (fin_v33 m c), (h c main_v26).trans (fin_v26 m c),
      (h c main_v30).trans (fin_v30 m c), (h c main_v35).trans (fin_v35 m c), (h c main_v46).trans (fin_v46 m c),
      (h c main_v45).trans (fin_v45 m c), (h c main_v20).trans (fin_v20 m c), (h c main_v47).trans (fin_v47 m c),
      (h c main_arg0).trans (fin_arg0 m c), (h c main_arg1).trans (fin_arg1 m c)⟩)
    (run_seq scopedRefs_eq scopedSems_eq defs main (fun _ => ops) main_eq (fun _ => ops_sub) m ρ)

end Cert.ReferenceIdeal.Stage

end
-- ==== Proof.RMath.lean ====
/-
  What the reference computes over the extended reals, entry by entry: the distances of its rows to the codebook's rows,
  the position of the nearest one, the one-hot rows and the rows looked up.
-/
module

public import proofs.«01_k».proof.Proof.RRun
public import proofs.«01_k».proof.Proof.KMath
public import Idealize.ShloMosaic.Lib.Routing.Ops
public import Idealize.ShloMosaic.Lib.IdealHost
public import Idealize.ShloMosaic.Lib.ReduceAll

@[expose] public section

noncomputable section

open Idealize.ShloMosaic Idealize.ShloMosaic.ValueIdx

namespace Cert.ReferenceIdeal.Stage

open Cert.ReferenceIdeal Cert.ReferenceIdeal.Gen Cert.Math

/-- The products of the rows with the codebook's rows. -/
theorem product_apply (x : FVec Ideal S32768x32 .f32) (cb : FVec Ideal S1024x32 .f32) (r : Fin 32768) (k : Fin 1024) :
    Host.dotGeneral (F := Ideal) (φ₁ := .f32) (φ₂ := .f32) dot_S32768x32_S32x1024_S32768x1024_1_0_0_1_n_n none x (transpose S32x1024 [1, 0] cb transposes_S1024x32_S32x1024_1_0) (ix2 r k)
      = ∑ j : Fin 32, x (ix2 r j) * cb (ix2 k j) := by
  unfold Host.dotGeneral
  rw [Ideal.dotGeneral_apply]
  refine ((Ideal.matmul_constant_zero_apply (DotDims.plain 32768 32 1024) none x _ (ix2 r k)).symm.trans
    (Ideal.matmul_plain_apply (M := 32768) (K := 32) (N := 1024) none x (transpose S32x1024 [1, 0] cb transposes_S1024x32_S32x1024_1_0) _ r k)).trans ?_
  show Ideal.ofBits .f32 0x00000000#32 + _ = _
  rw [Ideal.ofBits_zero_f32, zero_add]
  refine Finset.sum_congr rfl fun j _ => congrArg (x (ix2 r j) * ·) ?_
  refine transpose_apply _ _ _ _ _ fun b => ?_
  match b with
  | ⟨0, _⟩ => rfl
  | ⟨1, _⟩ => rfl

/-- A scalar spread over the distances' array. -/
theorem splat_apply {α : Type} (x : S_.Idx → α) (i : S32768x1024.Idx) : broadcastInDim S32768x1024 ![] bcast_S_S32768x1024 x i = x ix0 :=
  broadcastInDim_apply _ _ _ _ _ fun a => a.elim0

/-- The distance at row `r` and codebook row `k`. -/
theorem dist_apply (z : FVec Ideal S1024x1024 .f32) (cb : FVec Ideal S1024x32 .f32) (r : Fin 32768) (k : Fin 1024) :
    dist (F := Ideal) z cb (ix2 r k) = distance
      (Host.reduceAdd (F := Ideal) (φ := .f32) (mulf (zf (F := Ideal) z) (zf (F := Ideal) z)) (constant S_ .f32 0x00000000#32) reducesTo_S32768x32_S32768_d1 h_S_ (ix1 r))
      (Host.reduceAdd (F := Ideal) (φ := .f32) (mulf cb cb) (constant S_ .f32 0x00000000#32) reducesTo_S1024x32_S1024_d1 h_S_ (ix1 k))
      (fun j => zf (F := Ideal) z (ix2 r j)) (fun j => cb (ix2 k j)) := by
  have e : ∀ A B T P Z : FVec Ideal S32768x1024 .f32, Host.sqrt (maximumf (subf (addf A B) (mulf T P)) Z) (ix2 r k)
    = Ideal.sqrt (max (A (ix2 r k) + B (ix2 r k) - T (ix2 r k) * P (ix2 r k)) (Z (ix2 r k))) := fun _ _ _ _ _ => rfl
  unfold dist
  refine (e _ _ _ _ _).trans ?_
  unfold distance
  rw [splat_apply, splat_apply, product_apply]
  have e1 := Routing.bcRows (n := 32768) (m := 1024) bcast_S32768_S32768x1_0 bcast_S32768x1_S32768x1024_0_1
    (Host.reduceAdd (F := Ideal) (φ := .f32) (mulf (zf (F := Ideal) z) (zf (F := Ideal) z)) (constant S_ .f32 0x00000000#32) reducesTo_S32768x32_S32768_d1 h_S_) r k
  have e2 := Routing.bcCols (n := 32768) (m := 1024) bcast_S1024_S1x1024_1 bcast_S1x1024_S32768x1024_0_1
    (Host.reduceAdd (F := Ideal) (φ := .f32) (mulf cb cb) (constant S_ .f32 0x00000000#32) reducesTo_S1024x32_S1024_d1 h_S_) r k
  rw [e1, e2]
  show Ideal.sqrt (max (_ - Ideal.ofBits .f32 0x40000000#32 * _) (Ideal.ofBits .f32 0x00000000#32)) = _
  rw [Ideal.ofBits_zero_f32]

/-- The pairs a row's fold goes over are those of the indices that drop to the row. -/
theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    refine ⟨s.rowMajor i, ?_, ?_⟩
    · rw [List.mem_filter, decide_eq_true_eq, Equiv.symm_apply_apply]
      exact ⟨List.mem_finRange _, hi⟩
    · rw [Equiv.symm_apply_apply]

/-- The host's arg-min: the index of the pair kept. -/
def argIdx {F : FTy → Type} [FloatOps F] {s t u : Shape} {axes : List (Fin s.rank)} (x : FVec F s .f32) (y : IVec s 32) (ix : FVec F u .f32) (iy : IVec u 32)
    (h : s.ReducesTo axes t) (hu : 0 < u.numel) : IVec t 32 := fun j => (Host.argReduce reducer_argmin_f32_i32 x y ix iy h hu j).2

/-- The reference's indices are the host's arg-min of the distances. -/
theorem amin_eq {F : FTy → Type} [FloatOps F] (d : Vec F S32768x1024 .f32) :
    amin d = argIdx d (iotaInDim S32768x1024 32 1) (constant S_ .f32 0x7F800000#32) (constantI S_ 32 0#32) reducesTo_S32768x1024_S32768_d1 h_S_ := rfl

/-- The host's arg-min over indices that go through a row's 1024 positions is the row's first minimiser. -/
theorem argmin_of_row {s t u : Shape} {axes : List (Fin s.rank)} (x : FVec Ideal s .f32) (y : IVec s 32) (ix : FVec Ideal u .f32) (iy : IVec u 32)
    (h : s.ReducesTo axes t) (hu : 0 < u.numel) (j : t.Idx) (e : Fin 1024 → s.Idx) (he : ∀ i, h.drop i = j ↔ ∃ k, i = e k)
    (hy : ∀ k, y (e k) = BitVec.ofNat 32 k.val) (hix : ix (Shape.Idx.first hu) = (⊤ : EReal)) (hiy : iy (Shape.Idx.first hu) = 0#32)
    {n : Fin 1024} (hn : FirstMin (fun k => x (e k)) n) :
    argIdx x y ix iy h hu j = BitVec.ofNat 32 n.val := by
  unfold argIdx
  rw [Ideal.argReduce_eq_reduce2, Host.reduce2_eq_foldl_fiber, hix, hiy]
  refine foldl_positions hn _ fun p => ?_
  rw [mem_fiber]
  constructor
  · rintro ⟨i, hi, rfl⟩
    obtain ⟨k, rfl⟩ := (he i).1 hi
    exact ⟨k, by rw [hy]⟩
  · rintro ⟨k, rfl⟩
    exact ⟨e k, (he _).2 ⟨k, rfl⟩, by rw [hy]⟩

/-- The indices that reduce into row `r` are the row's. -/
theorem drop_row (r : Fin 32768) (i : S32768x1024.Idx) : reducesTo_S32768x1024_S32768_d1.drop i = ix1 r ↔ ∃ k, i = ix2 r k := by
  obtain ⟨r', k', rfl⟩ : ∃ (r' : Fin 32768) (k' : Fin 1024), i = ix2 r' k' := ⟨i 0, i 1, eq_ix2 i⟩
  have hd : reducesTo_S32768x1024_S32768_d1.drop (ix2 r' k') = ix1 r' := by
    funext a; apply Fin.ext
    match a with
    | ⟨0, _⟩ => rfl
  rw [hd]
  constructor
  · intro h
    have h0 : r' = r := congrFun h 0
    exact ⟨k', by rw [h0]⟩
  · rintro ⟨k, h⟩
    have h0 : r' = r := congrFun h 0
    rw [h0]

/-- The index found at row `r` is the row's first minimiser. -/
theorem amin_apply (d : FVec Ideal S32768x1024 .f32) (r : Fin 32768) {n : Fin 1024} (h : FirstMin (fun k => d (ix2 r k)) n) :
    amin (F := Ideal) d (ix1 r) = BitVec.ofNat 32 n.val := by
  rw [amin_eq]
  refine argmin_of_row d _ _ _ _ _ _ (fun k => ix2 r k) (drop_row r) (fun k => iotaInDim_apply 32 1 (ix2 r k)) ?_ rfl h
  show Ideal.ofBits .f32 0x7F800000#32 = ⊤
  simp [Ideal.ofBits, Ideal.ieee]

/-- The one-hot rows. -/
theorem hot_apply (i : IVec S32768 32) (r : Fin 32768) (k n : Fin 1024) (h : i (ix1 r) = BitVec.ofNat 32 n.val) :
    hot (F := Ideal) i (ix2 r k) = oneHot n k := by
  have e : ∀ I J : IVec S32768x1024 32, (uitofp .f32 (cmpi .eq I J) : FVec Ideal S32768x1024 .f32) (ix2 r k)
    = (((IntOp.cmpi .eq (I (ix2 r k)) (J (ix2 r k))).toNat : ℝ) : EReal) := fun _ _ => rfl
  unfold hot
  refine (e _ _).trans ?_
  have e1 := Routing.bcRows (n := 32768) (m := 1024) bcast_S32768_S32768x1_0 bcast_S32768x1_S32768x1024_0_1 i r k
  have e2 : broadcastInDim S32768x1024 ![0, 1] bcast_S1x1024_S32768x1024_0_1 (iotaInDim S1x1024 32 1) (ix2 r k) = BitVec.ofNat 32 k.val := by
    refine (broadcastInDim_apply _ _ _ _ (ix2 (0 : Fin 1) k) fun a => ?_).trans rfl
    match a with
    | ⟨0, _⟩ => rfl
    | ⟨1, _⟩ => rfl
  rw [e1, e2, h]
  unfold oneHot
  by_cases hk : k = n
  · subst hk
    rw [if_pos rfl, show IntOp.cmpi .eq (BitVec.ofNat 32 k.val) (BitVec.ofNat 32 k.val) = 1#1 by simp [IntOp.cmpi]]
    simp
  · have hne : ¬ BitVec.ofNat 32 n.val = BitVec.ofNat 32 k.val := fun h => hk (ofNat_inj h).symm
    rw [if_neg hk, show IntOp.cmpi .eq (BitVec.ofNat 32 n.val) (BitVec.ofNat 32 k.val) = 0#1 by
      simp only [IntOp.cmpi, beq_eq_false_iff_ne.2 hne]; rfl]
    simp

/-- An index below 1024 is not counted from the end. -/
theorem wrap_apply (i : IVec S32768 32) (r : Fin 32768) (n : Fin 1024) (h : i (ix1 r) = BitVec.ofNat 32 n.val) :
    wrap (F := Ideal) i (ix2 r 0) = BitVec.ofNat 32 n.val := by
  unfold wrap
  refine (Routing.bcCol (n := 32768) bcast_S32768_S32768x1_0 _ r).trans ?_
  have e : ∀ Z A : IVec S32768 32, select (cmpi .slt i Z) A i (ix1 r) = Scalar.select (IntOp.cmpi .slt (i (ix1 r)) (Z (ix1 r))) (A (ix1 r)) (i (ix1 r)) :=
    fun _ _ => rfl
  refine (e _ _).trans ?_
  have e0 : broadcastInDim S32768 ![] bcast_S_S32768 (constantI S_ 32 0#32) (ix1 r) = 0#32 :=
    (broadcastInDim_apply _ _ _ _ ix0 fun a => a.elim0).trans rfl
  rw [e0, h]
  have hs : (BitVec.ofNat 32 n.val).slt 0#32 = false := by
    rw [Bool.eq_false_iff]
    intro hc
    rw [BitVec.slt_iff_toInt_lt, toInt_ofNat] at hc
    rw [show (0#32 : BitVec 32).toInt = 0 by decide] at hc
    omega
  simp only [IntOp.cmpi, hs]
  rfl

/-- Every index below 1024 is in range. -/
theorem okR_apply (w : IVec S32768x1 32) (hw : ∀ r, ∃ n : Fin 1024, w (ix2 r 0) = BitVec.ofNat 32 n.val) (r : Fin 32768) :
    okR (F := Ideal) w (ix1 r) = 1#1 := by
  unfold okR
  refine Host.reduce_andi_one _ _ _ _ _ rfl fun i => ?_
  obtain ⟨r, q, rfl⟩ : ∃ (r : Fin 32768) (q : Fin 1), i = ix2 r q := ⟨i 0, i 1, eq_ix2 i⟩
  obtain rfl : q = 0 := Subsingleton.elim _ _
  obtain ⟨n, hn⟩ := hw r
  have e : ∀ Z M : IVec S32768x1 32, andi (cmpi .sge w Z) (cmpi .sle w M) (ix2 r 0) = IntOp.andi (IntOp.cmpi .sge (w (ix2 r 0)) (Z (ix2 r 0))) (IntOp.cmpi .sle (w (ix2 r 0)) (M (ix2 r 0))) := fun _ _ => rfl
  refine (e _ _).trans ?_
  have e0 : broadcastInDim S32768x1 ![] bcast_S_S32768x1 (constantI S_ 32 0#32) (ix2 r 0) = 0#32 :=
    (broadcastInDim_apply _ _ _ _ ix0 fun a => a.elim0).trans rfl
  have e1 : broadcastInDim S32768x1 ![0, 1] bcast_S1x1_S32768x1_0_1 (broadcastInDim S1x1 ![1] bcast_S1_S1x1_1 (constantI S1 32 1023#32)) (ix2 r 0) = 1023#32 := by
    unfold broadcastInDim constantI
    rfl
  rw [e0, e1, hn]
  have hn' := n.isLt
  have h1 : (0#32 : BitVec 32).sle (BitVec.ofNat 32 n.val) = true := by
    rw [BitVec.sle_iff_toInt_le, toInt_ofNat, show (0#32 : BitVec 32).toInt = 0 by decide]
    omega
  have h2 : (BitVec.ofNat 32 n.val).sle 1023#32 = true := by
    rw [BitVec.sle_iff_toInt_le, toInt_ofNat, show (1023#32 : BitVec 32).toInt = 1023 by decide]
    omega
  simp only [IntOp.cmpi, h1, h2]
  rfl

/-- The rows looked up. -/
theorem look_apply (cb : FVec Ideal S1024x32 .f32) (i : IVec S32768 32) (n : Fin 32768 → Fin 1024)
    (h : ∀ r, i (ix1 r) = BitVec.ofNat 32 (n r).val) (r : Fin 32768) (l : Fin 32) :
    look (F := Ideal) cb i (ix2 r l) = cb (ix2 (n r) l) := by
  have e : ∀ (C : IVec S32768x32 1) (A B : FVec Ideal S32768x32 .f32), select C A B (ix2 r l) = Scalar.select (C (ix2 r l)) (A (ix2 r l)) (B (ix2 r l)) := fun _ _ _ => rfl
  have eg := Routing.gather_row (nb := 1024) (B := 32) (n := 32768) gather_S1024x32_S32768x1_S32768x32_1_0_n_n_0_1_132 rfl rfl rfl rfl rfl cb (wrap (F := Ideal) i) r l (n r)
    (wrap_apply i r (n r) (h r)) (by decide)
  have eb : broadcastInDim S32768x32 ![0] bcast_S32768_S32768x32_0 (okR (F := Ideal) (wrap (F := Ideal) i)) (ix2 r l) = 1#1 := by
    refine (broadcastInDim_apply _ _ _ _ (ix1 r) fun a => ?_).trans (okR_apply _ (fun r => ⟨n r, wrap_apply i r (n r) (h r)⟩) r)
    match a with
    | ⟨0, _⟩ => rfl
  unfold look
  refine (e _ _ _).trans ?_
  rw [eb, eg]
  rfl

end Cert.ReferenceIdeal.Stage

end
-- ==== Proof.RNear.lean ====
/-
  The reference's indices, one-hot rows and looked-up rows in terms of the nearest code of each row, hence equal to the
  kernel's.
-/
module

public import proofs.«01_k».proof.Proof.Near
public import proofs.«01_k».proof.Proof.RMath
public import Idealize.ShloMosaic.Lib.Pointwise.Reshape

@[expose] public section

noncomputable section

open Idealize.ShloMosaic Idealize.ShloMosaic.TcCoe
open Idealize.ShloMosaic.ValueIdx (eq_ix2 eq_ix1)

namespace Cert.ReferenceIdeal.Stage

open Cert.ReferenceIdeal Cert.ReferenceIdeal.Gen Cert.Math
open Cert.KernelIdeal.Val (near near_spec D)

variable (z : FVec Ideal S1024x1024 .f32) (cb : FVec Ideal S1024x32 .f32)

/-- The two programs read the input as the same rows. -/
theorem zf_eq : zf (F := Ideal) z = Cert.KernelIdeal.Val.zf (F := Ideal) z := shapeCast_comp z _ _

/-- The two programs compute the same distances. -/
theorem dist_eq (r : Fin 32768) (k : Fin 1024) : dist (F := Ideal) z cb (ValueIdx.ix2 r k) = D z cb r k := by
  rw [dist_apply, zf_eq]
  unfold D
  rw [Cert.KernelIdeal.Val.zz_apply, Cert.KernelIdeal.Val.cc_apply]

/-- The reference's index at row `r` is the nearest code's. -/
theorem idx_apply (r : Fin 32768) : amin (F := Ideal) (dist (F := Ideal) z cb) (ValueIdx.ix1 r) = BitVec.ofNat 32 (near z cb r).val := by
  refine amin_apply _ r ?_
  rw [show (fun k => dist (F := Ideal) z cb (ValueIdx.ix2 r k)) = D z cb r from funext fun k => dist_eq z cb r k]
  exact near_spec z cb r

/-- The reference's one-hot rows. -/
theorem hotIdx_apply (r : Fin 32768) (k : Fin 1024) : hot (F := Ideal) (amin (F := Ideal) (dist (F := Ideal) z cb)) (ValueIdx.ix2 r k) = oneHot (near z cb r) k :=
  hot_apply _ r k _ (idx_apply z cb r)

/-- The reference's looked-up rows. -/
theorem lookIdx_apply (r : Fin 32768) (l : Fin 32) :
    look (F := Ideal) cb (amin (F := Ideal) (dist (F := Ideal) z cb)) (ValueIdx.ix2 r l) = cb (ValueIdx.ix2 (near z cb r) l) :=
  look_apply cb _ (near z cb) (idx_apply z cb) r l

end Cert.ReferenceIdeal.Stage

end
-- ==== Proof.Sums.lean ====
/-
  The kernel's two running totals over the extended reals: after the last block they are the sums over all 32768 rows, of
  the one-hot rows and of the squared differences. Then what the last point makes of them.
-/
module

public import proofs.«01_k».proof.Proof.Near

@[expose] public section

noncomputable section

open Idealize.ShloMosaic Idealize.ShloMosaic.TcCoe Idealize.ShloMosaic.ValueIdx

namespace Cert.Math

/-- A function of the rows, zero past the last. -/
def ext (g : Fin 32768 → EReal) (x : ℕ) : EReal := if h : x < 32768 then g ⟨x, h⟩ else 0

/-- Over all rows its sum is the rows' sum. -/
theorem sum_ext (g : Fin 32768 → EReal) : ∑ x ∈ Finset.range 32768, ext g x = ∑ r, g r := by
  rw [Finset.sum_range]
  exact Finset.sum_congr rfl fun r _ => dif_pos r.isLt

/-- A sum over the entries of a reshaped array is the sum over the entries. -/
theorem sum_shapeCast {s t : Shape} (x : s.Idx → EReal) (h : s.ShapeCasts t) : ∑ i, shapeCast t x h i = ∑ i, x i :=
  Equiv.sum_comp (Shape.reshapeEquiv h) x

/-- A one-element array read through any index. -/
theorem cast_one {α : Type} (x : (⟨2, ![1, 1]⟩ : Shape).Idx → α) (i : (⟨2, ![1, 1]⟩ : Shape).Idx) : x i = x (ix2 0 0) := by
  obtain ⟨a, b, rfl⟩ : ∃ (a b : Fin 1), i = ix2 a b := ⟨i 0, i 1, eq_ix2 i⟩
  rw [Subsingleton.elim a 0, Subsingleton.elim b 0]

/-- The perplexity of the codes' counts, as both programs compute it. -/
def perplexity (f : Fin 1024 → EReal) : EReal :=
  Ideal.exp (-∑ k, Ideal.div (f k) (Ideal.ofBits .f32 0x47000000#32)
    * Ideal.log (Ideal.div (f k) (Ideal.ofBits .f32 0x47000000#32) + Ideal.ofBits .f32 0x2EDBE6FF#32))

/-- The mean of the squared differences from their sum. -/
def mean (x : EReal) : EReal := Ideal.div x (Ideal.ofBits .f32 0x49800000#32)

end Cert.Math

namespace Cert.KernelIdeal.Val

open Cert.KernelIdeal Cert.KernelIdeal.Gen Cert.Math

/-- A column's indices in a block, from the coordinate down the column. -/
theorem lift_col (k : Fin 1024) (r : Fin 512) : reduces_S512x1024_S1024.lift (ix1 k) r = ix2 r k := by
  funext a; apply Fin.ext
  match a with
  | ⟨0, _⟩ => rfl
  | ⟨1, _⟩ => rfl

/-- The counts' total grows by a block's column sums. -/
theorem k0_pay4_apply (v29 : FVec Ideal S512x1024 .f32) (v51 : FVec Ideal S1x1024 .f32) (k : Fin 1024) :
    k0_pay4 (F := Ideal) v29 v51 (ix2 0 k) = v51 (ix2 0 k) + ∑ r : Fin 512, v29 (ix2 r k) := by
  unfold k0_pay4
  rw [shapeCast_self]
  have e : ∀ A : FVec Ideal S1x1024 .f32, addf v51 A (ix2 0 k) = v51 (ix2 0 k) + A (ix2 0 k) := fun _ => rfl
  refine (e _).trans (congrArg (v51 (ix2 0 k) + ·) ?_)
  refine (Routing.cast12 (a := 1) (b := 1024) (n := 1024) _ shapeCasts_S1024_S1x1024 0 k k (by show k.val = 0 * 1024 + k.val; omega)).trans ?_
  refine (Ideal.multiReduction_add_single v29 _ reduces_S512x1024_S1024 _ _ _).trans ?_
  exact Finset.sum_congr rfl fun r _ => congrArg v29 (lift_col k r)

/-- The squares' total grows by a block's sum of squared differences. -/
theorem k0_pay3_apply (v1 v31 : FVec Ideal S512x32 .f32) (v40 : FVec Ideal S1x1 .f32) :
    k0_pay3 (F := Ideal) v1 v31 v40 (ix2 0 0)
      = v40 (ix2 0 0) + ∑ r : Fin 512, ∑ l : Fin 32, (v31 (ix2 r l) - v1 (ix2 r l)) * (v31 (ix2 r l) - v1 (ix2 r l)) := by
  unfold k0_pay3
  rw [shapeCast_self]
  have e : ∀ x : EReal, addf v40 (broadcast S1x1 (x : Ideal .f32)) (ix2 0 0) = v40 (ix2 0 0) + x := fun _ => rfl
  refine (e _).trans (congrArg (v40 (ix2 0 0) + ·) ?_)
  refine (Ideal.multiReduction_add_total _ 0x00000000#32 reduces_S1x512x32_S1 (fun b => by match b with | ⟨0, _⟩ => rfl) (.inl rfl) rfl _).trans ?_
  refine (sum_shapeCast _ _).trans ?_
  exact sum_idx2 (n0 := 512) (n1 := 32) _

/-- The counts start from zero. -/
theorem k0_pay1_apply (k : Fin 1024) : k0_pay1 (F := Ideal) (ix2 0 k) = (0 : EReal) := by
  unfold k0_pay1
  rw [shapeCast_self]
  exact Ideal.ofBits_zero_f32

/-- The squares start from zero. -/
theorem k0_pay2_apply : k0_pay2 (F := Ideal) (ix2 0 0) = (0 : EReal) := by
  unfold k0_pay2
  rw [shapeCast_self]
  exact Ideal.ofBits_zero_f32

/-- A block's sum over its rows is a stretch of the sum over all rows. -/
theorem sum_block (g : Fin 32768 → EReal) (t : Fin cfg0.N) :
    ∑ r : Fin 512, g (rowAt t r) = ∑ x ∈ Finset.range 512, ext g (512 * t.val + x) := by
  rw [Finset.sum_range]
  refine Finset.sum_congr rfl fun r _ => ?_
  have ht : t.val < 64 := lt_of_lt_of_eq t.isLt N_0
  have hr : 512 * t.val + r.val < 32768 := by have := r.isLt; omega
  exact (dif_pos (c := 512 * t.val + r.val < 32768) (t := fun h => g ⟨_, h⟩) (e := fun _ => 0) hr).symm

/-- A total that starts from zero and grows by each block's sum holds, after point `n`, the sum over the rows so far. -/
theorem total (g : Fin 32768 → EReal) (f : (n : ℕ) → n < cfg0.N → EReal)
    (h0 : ∀ h, f 0 h = 0 + ∑ r : Fin 512, g (rowAt ⟨0, h⟩ r))
    (hs : ∀ n h, f (n + 1) h = f n (Nat.lt_of_succ_lt h) + ∑ r : Fin 512, g (rowAt ⟨n + 1, h⟩ r)) :
    ∀ n h, f n h = ∑ x ∈ Finset.range (512 * (n + 1)), ext g x := by
  intro n
  induction n with
  | zero =>
    intro h
    rw [h0, sum_block, zero_add]
    refine Finset.sum_congr rfl fun x _ => ?_
    show ext g (512 * 0 + x) = _
    rw [Nat.mul_zero, Nat.zero_add]
  | succ n ih =>
    intro h
    rw [hs, ih, sum_block, show 512 * (n + 1 + 1) = 512 * (n + 1) + 512 by omega, Finset.sum_range_add]

/-- After the last point it is the sum over all rows. -/
theorem total_last (g : Fin 32768 → EReal) (f : (n : ℕ) → n < cfg0.N → EReal)
    (h0 : ∀ h, f 0 h = 0 + ∑ r : Fin 512, g (rowAt ⟨0, h⟩ r))
    (hs : ∀ n h, f (n + 1) h = f n (Nat.lt_of_succ_lt h) + ∑ r : Fin 512, g (rowAt ⟨n + 1, h⟩ r)) :
    f 63 last_lt = ∑ r, g r := (total g f h0 hs 63 last_lt).trans (sum_ext g)

variable (m : (ℓ : Loc nD τ sig) → Buf (Elt Ideal) ℓ) (c : Dev nD)

/-- The counts after the last point: how many rows have each code nearest. -/
theorem cnt_last (k : Fin 1024) : cnt m c 63 last_lt (ix2 0 k) = ∑ r, oneHot (nr m c r) k := by
  refine total_last (fun r => oneHot (nr m c r) k) (fun n h => cnt m c n h (ix2 0 k)) (fun h => ?_) fun n h => ?_
  · refine (k0_pay4_apply (ohB m c ⟨0, h⟩) (k0_pay1 (F := Ideal)) k).trans ?_
    rw [k0_pay1_apply]
    exact congrArg (0 + ·) (Finset.sum_congr rfl fun r _ => ohB_apply m c ⟨0, h⟩ r k)
  · refine (k0_pay4_apply (ohB m c ⟨n + 1, h⟩) (cnt m c n (Nat.lt_of_succ_lt h)) k).trans ?_
    exact congrArg (cnt m c n (Nat.lt_of_succ_lt h) (ix2 0 k) + ·) (Finset.sum_congr rfl fun r _ => ohB_apply m c ⟨n + 1, h⟩ r k)

/-- The squared difference of an entry of the input and of its nearest code. -/
def sqDiff (z : FVec Ideal S1024x1024 .f32) (cb : FVec Ideal S1024x32 .f32) (r : Fin 32768) (l : Fin 32) : EReal :=
  (cb (ix2 (near z cb r) l) - zf (F := Ideal) z (ix2 r l)) * (cb (ix2 (near z cb r) l) - zf (F := Ideal) z (ix2 r l))

/-- A block's entries' squared differences. -/
theorem sq_block (t : Fin cfg0.N) (r : Fin 512) (l : Fin 32) :
    (zqB m c t (ix2 r l) - k0_pay8 (F := Ideal) (iblk m c 0 t) (ix2 r l)) * (zqB m c t (ix2 r l) - k0_pay8 (F := Ideal) (iblk m c 0 t) (ix2 r l))
      = sqDiff (a0 m c) (a1 m c) (rowAt t r) l := by
  have h8 : k0_pay8 (F := Ideal) (iblk m c 0 t) = (iblk m c 0 t : Vec Ideal S512x32 .f32) := shapeCast_self _ _
  rw [h8, iblk0_apply m c t r l, zqB_apply, entry_v0]
  rfl

/-- The squares after the last point: the sum over all entries. -/
theorem sqs_last : sqs m c 63 last_lt (ix2 0 0) = ∑ r, ∑ l, sqDiff (a0 m c) (a1 m c) r l := by
  refine total_last (fun r => ∑ l, sqDiff (a0 m c) (a1 m c) r l) (fun n h => sqs m c n h (ix2 0 0)) (fun h => ?_) fun n h => ?_
  · refine (k0_pay3_apply (k0_pay8 (F := Ideal) (iblk m c 0 ⟨0, h⟩)) (zqB m c ⟨0, h⟩) (k0_pay2 (F := Ideal))).trans ?_
    rw [k0_pay2_apply]
    exact congrArg (0 + ·) (Finset.sum_congr rfl fun r _ => Finset.sum_congr rfl fun l _ => sq_block m c ⟨0, h⟩ r l)
  · refine (k0_pay3_apply (k0_pay8 (F := Ideal) (iblk m c 0 ⟨n + 1, h⟩)) (zqB m c ⟨n + 1, h⟩) (sqs m c n (Nat.lt_of_succ_lt h))).trans ?_
    exact congrArg (sqs m c n (Nat.lt_of_succ_lt h) (ix2 0 0) + ·)
      (Finset.sum_congr rfl fun r _ => Finset.sum_congr rfl fun l _ => sq_block m c ⟨n + 1, h⟩ r l)

/-- The mean of the squares. -/
theorem k0_pay5_apply (v : FVec Ideal S1x1 .f32) : k0_pay5 (F := Ideal) v (ix2 0 0) = mean (v (ix2 0 0)) := rfl

/-- The weighted mean of the squares. -/
theorem k0_pay6_apply (v : FVec Ideal S1x1 .f32) :
    k0_pay6 (F := Ideal) v (ix2 0 0) = Ideal.ofBits .f32 0x3FA00000#32 * mean (v (ix2 0 0)) := rfl

/-- The perplexity of the counts. -/
theorem k0_pay7_apply (v : FVec Ideal S1x1024 .f32) : k0_pay7 (F := Ideal) v (ix2 0 0) = perplexity fun k => v (ix2 0 k) := by
  unfold k0_pay7
  have e : ∀ x : EReal, exp (F := Ideal) (subf (broadcast S1x1 (Scalar.ofBits (F := Ideal) .f32 0x00000000#32)) (broadcast S1x1 (x : Ideal .f32))) (ix2 0 0)
    = Ideal.exp (Ideal.ofBits .f32 0x00000000#32 - x) := fun _ => rfl
  refine (e _).trans ?_
  unfold perplexity
  rw [Ideal.ofBits_zero_f32, zero_sub]
  refine congrArg (fun x => Ideal.exp (-x)) ?_
  refine (Ideal.multiReduction_add_total _ 0x00000000#32 reduces_S1x1x1024_S1 (fun b => by match b with | ⟨0, _⟩ => rfl) (.inl rfl) rfl _).trans ?_
  refine (sum_shapeCast _ _).trans ?_
  refine (sum_idx2 (n0 := 1) (n1 := 1024) _).trans ?_
  rw [Fin.sum_univ_one]
  rfl

end Cert.KernelIdeal.Val

end
-- ==== Proof.RSums.lean ====
/-
  The reference's totals over the extended reals: the mean squared difference, the loss and the perplexity in terms of the
  nearest codes; and the straight-through output, which for a finite input is the looked-up rows themselves.
-/
module

public import proofs.«01_k».proof.Proof.RNear
public import proofs.«01_k».proof.Proof.Sums

@[expose] public section

noncomputable section

open Idealize.ShloMosaic Idealize.ShloMosaic.TcCoe

namespace Cert.Math

/-- The sum of a finite number and the difference from it is the other term. -/
theorem add_sub_self {x y : EReal} (hb : x ≠ ⊥) (ht : x ≠ ⊤) : x + (y - x) = y := by
  induction x with
  | bot => exact absurd rfl hb
  | top => exact absurd rfl ht
  | coe x =>
    induction y with
    | bot => simp
    | top => simp
    | coe y => exact congrArg ((↑) : ℝ → EReal) (add_sub_cancel x y)

/-- The literal five quarters. -/
theorem ofBits_five_quarters : Ideal.ofBits .f32 0x3FA00000#32 = ((5 / 4 : ℝ) : EReal) := by
  simp [Ideal.ofBits, Ideal.ieee, -EReal.coe_mul]; norm_num

/-- The literal one quarter. -/
theorem ofBits_quarter : Ideal.ofBits .f32 0x3E800000#32 = ((1 / 4 : ℝ) : EReal) := by
  simp [Ideal.ofBits, Ideal.ieee, -EReal.coe_mul]; norm_num

/-- The literal infinity. -/
theorem ofBits_inf : Ideal.ofBits .f32 0x7F800000#32 = ⊤ := by simp [Ideal.ofBits, Ideal.ieee]

/-- A number and a quarter of it are five quarters of it. -/
theorem five_quarters (x : EReal) :
    Ideal.ofBits .f32 0x3F800000#32 * x + Ideal.ofBits .f32 0x3E800000#32 * x = Ideal.ofBits .f32 0x3FA00000#32 * x := by
  rw [Ideal.ofBits_one_f32, ofBits_quarter, ofBits_five_quarters,
    ← EReal.right_distrib_of_nonneg zero_le_one (EReal.coe_nonneg.mpr (by norm_num))]
  refine congrArg (· * x) ?_
  rw [← EReal.coe_one, ← EReal.coe_add]
  norm_num

end Cert.Math

namespace Cert.ReferenceIdeal.Stage

open Cert.ReferenceIdeal Cert.ReferenceIdeal.Gen Cert.Math
open Cert.KernelIdeal.Val (near sqDiff)

variable (z : FVec Ideal S1024x1024 .f32) (cb : FVec Ideal S1024x32 .f32)

/-- The looked-up rows of the input's nearest codes. -/
abbrev qOf : FVec Ideal S32768x32 .f32 := look (F := Ideal) cb (amin (F := Ideal) (dist (F := Ideal) z cb))

/-- The input by images is the rows reshaped. -/
theorem zr_eq : zr (F := Ideal) z = shapeCast S1024x32x32 (zf (F := Ideal) z) shapeCasts_S32768x32_S1024x32x32 :=
  (shapeCast_shapeCast (zr (F := Ideal) z) _ _).symm

/-- The difference by images is the difference of the rows reshaped. -/
theorem diff_eq (q : FVec Ideal S32768x32 .f32) : diff (F := Ideal) q (zr (F := Ideal) z)
    = shapeCast S1024x32x32 (fun i => (q i - zf (F := Ideal) z i : EReal)) shapeCasts_S32768x32_S1024x32x32 := by
  rw [zr_eq]; rfl

/-- The mean squared difference. -/
theorem mse_apply : mse (F := Ideal) (qOf z cb) (zr (F := Ideal) z) ValueIdx.ix0 = mean (∑ r, ∑ l, sqDiff z cb r l) := by
  unfold mse mean
  rw [diff_eq]
  refine congrArg (fun x => Ideal.div x (Ideal.ofBits .f32 0x49800000#32)) ?_
  refine (Ideal.hostReduceAdd_total reducesTo_S1024x32x32_S_d0_1_2 (fun b => b.elim0) _ _ _).trans ?_
  have e0 : ∀ j, constant (F := Ideal) S_ .f32 0x00000000#32 j = (0 : EReal) := fun _ => Ideal.ofBits_zero_f32
  rw [e0, zero_add]
  refine (sum_shapeCast (fun i => ((qOf z cb i - zf (F := Ideal) z i) * (qOf z cb i - zf (F := Ideal) z i) : EReal)) shapeCasts_S32768x32_S1024x32x32).trans ?_
  refine (ValueIdx.sum_idx2 (n0 := 32768) (n1 := 32) _).trans ?_
  refine Finset.sum_congr rfl fun r _ => Finset.sum_congr rfl fun l _ => ?_
  unfold qOf sqDiff
  rw [lookIdx_apply, zf_eq]

/-- The loss is five quarters of the mean squared difference. -/
theorem loss_apply : loss (F := Ideal) (qOf z cb) (zr (F := Ideal) z) ValueIdx.ix0
    = Ideal.ofBits .f32 0x3FA00000#32 * mean (∑ r, ∑ l, sqDiff z cb r l) := by
  rw [← five_quarters, ← mse_apply]
  rfl

/-- A column's indices, from the coordinate down the column. -/
theorem lift_col (h : S32768x1024.Reduces [0] S1024) (k : Fin 1024) (r : Fin 32768) : h.lift (ValueIdx.ix1 k) r = ValueIdx.ix2 r k := by
  funext a; apply Fin.ext
  match a with
  | ⟨0, _⟩ => rfl
  | ⟨1, _⟩ => rfl

/-- How often a code is used: its column's sum, over the number of rows. -/
theorem freq_apply (h : FVec Ideal S32768x1024 .f32) (k : Fin 1024) : freq (F := Ideal) h (ValueIdx.ix1 k)
    = Ideal.div (∑ r : Fin 32768, h (ValueIdx.ix2 r k)) (Ideal.ofBits .f32 0x47000000#32) := by
  unfold freq
  refine congrArg (fun x => Ideal.div x (Ideal.ofBits .f32 0x47000000#32)) ?_
  have hr : S32768x1024.Reduces [0] S1024 := by decide
  refine (Ideal.hostReduceAdd_single reducesTo_S32768x1024_S1024_d0 hr h _ _).trans ?_
  have e0 : ∀ j, constant (F := Ideal) S_ .f32 0x00000000#32 j = (0 : EReal) := fun _ => Ideal.ofBits_zero_f32
  rw [e0, zero_add]
  exact Finset.sum_congr rfl fun r _ => congrArg h (lift_col hr k r)

/-- A sum over the indices of a vector is the sum over its positions. -/
theorem sum_codes (f : S1024.Idx → EReal) : ∑ i, f i = ∑ k : Fin 1024, f (ValueIdx.ix1 k) := by
  refine (Finset.sum_bij (fun (k : Fin 1024) _ => (ValueIdx.ix1 k : S1024.Idx)) (fun _ _ => Finset.mem_univ _) (fun a _ b _ e => ?_)
    (fun i _ => ⟨i 0, Finset.mem_univ _, (ValueIdx.eq_ix1 i).symm⟩) fun _ _ => rfl).symm
  exact congrFun e 0

/-- The perplexity of the codes' counts. -/
theorem perp_apply (h : FVec Ideal S32768x1024 .f32) :
    perp (F := Ideal) h ValueIdx.ix0 = perplexity fun k => ∑ r : Fin 32768, h (ValueIdx.ix2 r k) := by
  unfold perp perplexity
  refine congrArg (fun x => Ideal.exp (-x)) ?_
  refine (Ideal.hostReduceAdd_total reducesTo_S1024_S_d0 (fun b => b.elim0) _ _ _).trans ?_
  have e0 : ∀ j, constant (F := Ideal) S_ .f32 0x00000000#32 j = (0 : EReal) := fun _ => Ideal.ofBits_zero_f32
  rw [e0, zero_add]
  refine (sum_codes _).trans ?_
  refine Finset.sum_congr rfl fun k _ => ?_
  rw [← freq_apply h k]
  rfl

/-- The perplexity of the one-hot rows. -/
theorem perpHot_apply : perp (F := Ideal) (hot (F := Ideal) (amin (F := Ideal) (dist (F := Ideal) z cb))) ValueIdx.ix0
    = perplexity fun k => ∑ r, oneHot (near z cb r) k := by
  rw [perp_apply]
  exact congrArg perplexity (funext fun k => Finset.sum_congr rfl fun r _ => hotIdx_apply z cb r k)

/-- For a finite input, the straight-through output is the looked-up rows. -/
theorem thru_eq (hz : ∀ i, z i ≠ (⊥ : EReal) ∧ z i ≠ (⊤ : EReal)) (q : FVec Ideal S32768x32 .f32) :
    thru (F := Ideal) q (zr (F := Ideal) z) = shapeCast S1024x32x32 q shapeCasts_S32768x32_S1024x32x32 :=
  funext fun j => add_sub_self (hz _).1 (hz _).2

end Cert.ReferenceIdeal.Stage

end
-- ==== Proof.Equal.lean ====
/-
  The kernel's results are the reference's, result by result, from the same arguments; and what the precondition says.
-/
module

public import proofs.«01_k».proof.Proof.KRun
public import proofs.«01_k».proof.Proof.RSums
public import proofs.«01_k».proof.Pre_finite_z

@[expose] public section

noncomputable section

open Idealize.ShloMosaic Idealize.ShloMosaic.TcCoe

namespace Cert.KernelIdeal.Val

open Cert.KernelIdeal Cert.KernelIdeal.Gen Cert.Math
open Cert.ReferenceIdeal.Stage (loss mse thru perp hot amin dist qOf zr)

variable (m : (ℓ : Loc nD τ sig) → Buf (Elt Ideal) ℓ) (c : Dev nD)

/-- The looked-up rows of the reference, from the kernel's arguments. -/
abbrev q : FVec Ideal S32768x32 .f32 := qOf (a0 m c) (a1 m c)

/-- The input by images. -/
abbrev x : FVec Ideal S1024x32x32 .f32 := zr (F := Ideal) (a0 m c)

/-- The indices of the reference, from the kernel's arguments. -/
abbrev ix : IVec S32768 32 := amin (F := Ideal) (dist (F := Ideal) (a0 m c) (a1 m c))

/-- A scalar read from a one-element array. -/
theorem scalar_eq (v : FVec Ideal S1x1 .f32) (w : FVec Ideal S_ .f32) (h : v (ValueIdx.ix2 0 0) = w ValueIdx.ix0) :
    (shapeCast S_ v shapeCasts_S1x1_S_ : FVec Ideal S_ .f32) = w := by
  funext j
  obtain rfl : j = ValueIdx.ix0 := funext fun a => a.elim0
  exact (cast_one v _).trans h

/-- The loss. -/
theorem out0 : (shapeCast S_ (G8 m c : FVec Ideal S1x1 .f32) shapeCasts_S1x1_S_ : FVec Ideal S_ .f32) = loss (F := Ideal) (q m c) (x m c) :=
  scalar_eq _ _ (((k0_pay6_apply _).trans (by rw [sqs_last])).trans (Cert.ReferenceIdeal.Stage.loss_apply _ _).symm)

/-- The codebook loss. -/
theorem out1 : (shapeCast S_ (G9 m c : FVec Ideal S1x1 .f32) shapeCasts_S1x1_S_ : FVec Ideal S_ .f32) = mse (F := Ideal) (q m c) (x m c) :=
  scalar_eq _ _ (((k0_pay5_apply _).trans (by rw [sqs_last])).trans (Cert.ReferenceIdeal.Stage.mse_apply _ _).symm)

/-- The commitment loss. -/
theorem out2 : (shapeCast S_ (G10 m c : FVec Ideal S1x1 .f32) shapeCasts_S1x1_S_ : FVec Ideal S_ .f32) = mse (F := Ideal) (q m c) (x m c) :=
  scalar_eq _ _ (((k0_pay5_apply _).trans (by rw [sqs_last])).trans (Cert.ReferenceIdeal.Stage.mse_apply _ _).symm)

/-- The perplexity. -/
theorem out5 : (shapeCast S_ (G11 m c : FVec Ideal S1x1 .f32) shapeCasts_S1x1_S_ : FVec Ideal S_ .f32) = perp (F := Ideal) (hot (F := Ideal) (ix m c)) :=
  scalar_eq _ _ (((k0_pay7_apply _).trans (congrArg perplexity (funext fun k => cnt_last m c k))).trans
    (Cert.ReferenceIdeal.Stage.perpHot_apply _ _).symm)

/-- The one-hot rows. -/
theorem out6 : (G4 m c : FVec Ideal S32768x1024 .f32) = hot (F := Ideal) (ix m c) := by
  funext j
  obtain ⟨r, k, rfl⟩ : ∃ (r : Fin 32768) (k : Fin 1024), j = ValueIdx.ix2 r k := ⟨j 0, j 1, ValueIdx.eq_ix2 j⟩
  exact (G4_apply m c r k).trans (Cert.ReferenceIdeal.Stage.hotIdx_apply _ _ r k).symm

/-- The indices. -/
theorem out7 : (G7 m c : IVec S32768x1 32) = shapeCast S32768x1 (ix m c) Cert.ReferenceIdeal.Gen.shapeCasts_S32768_S32768x1 := by
  funext j
  obtain ⟨r, u, rfl⟩ : ∃ (r : Fin 32768) (u : Fin 1), j = ValueIdx.ix2 r u := ⟨j 0, j 1, ValueIdx.eq_ix2 j⟩
  rw [Subsingleton.elim u 0]
  refine (G7_apply m c r).trans ((Cert.ReferenceIdeal.Stage.idx_apply _ _ r).symm.trans ?_)
  exact (Routing.cast12 (a := 32768) (b := 1) (n := 32768) (ix m c) Cert.ReferenceIdeal.Gen.shapeCasts_S32768_S32768x1 r 0 r
    (by show r.val = r.val * 1 + 0; omega)).symm

/-- The looked-up rows, as the kernel leaves them once. -/
theorem rows5 : (G5 m c : FVec Ideal S32768x32 .f32) = q m c := by
  funext j
  obtain ⟨r, l, rfl⟩ : ∃ (r : Fin 32768) (l : Fin 32), j = ValueIdx.ix2 r l := ⟨j 0, j 1, ValueIdx.eq_ix2 j⟩
  exact (G5_apply m c r l).trans (Cert.ReferenceIdeal.Stage.lookIdx_apply _ _ r l).symm

/-- The looked-up rows, as the kernel leaves them twice. -/
theorem rows6 : (G6 m c : FVec Ideal S32768x32 .f32) = q m c := by
  funext j
  obtain ⟨r, l, rfl⟩ : ∃ (r : Fin 32768) (l : Fin 32), j = ValueIdx.ix2 r l := ⟨j 0, j 1, ValueIdx.eq_ix2 j⟩
  exact (G6_apply m c r l).trans (Cert.ReferenceIdeal.Stage.lookIdx_apply _ _ r l).symm

/-- Every number of the input is finite. -/
def Finite : Prop := ∀ i, a0 m c i ≠ (⊥ : EReal) ∧ a0 m c i ≠ (⊤ : EReal)

/-- The straight-through output. -/
theorem out3 (hz : Finite m c) :
    (shapeCast S1024x32x32 (G5 m c : FVec Ideal S32768x32 .f32) shapeCasts_S32768x32_S1024x32x32 : FVec Ideal S1024x32x32 .f32)
      = thru (F := Ideal) (q m c) (x m c) := by
  rw [rows5]
  exact (Cert.ReferenceIdeal.Stage.thru_eq (a0 m c) hz (q m c)).symm

/-- The straight-through output by images. -/
theorem out4 (hz : Finite m c) :
    (shapeCast S1024x1024 (G6 m c : FVec Ideal S32768x32 .f32) shapeCasts_S32768x32_S1024x1024 : FVec Ideal S1024x1024 .f32)
      = shapeCast S1024x1024 (thru (F := Ideal) (q m c) (x m c)) Cert.ReferenceIdeal.Gen.shapeCasts_S1024x32x32_S1024x1024 := by
  rw [rows6]
  refine Eq.trans ?_ (congrArg (fun v => shapeCast S1024x1024 v Cert.ReferenceIdeal.Gen.shapeCasts_S1024x32x32_S1024x1024)
    (Cert.ReferenceIdeal.Stage.thru_eq (a0 m c) hz (q m c)).symm)
  exact (shapeCast_comp (q m c) _ _).symm

/-- The precondition says that every number of the input is finite. -/
theorem finite_of_pre [Cert.Pre_finite_z.Facts]
    (h : Cert.Pre_finite_z.fn (F := Ideal) (a0 m c) (a1 m c) = fun _ => 1#1) : Finite m c := by
  intro i
  have hi : Ideal.cmp .olt (max (a0 m c i) (-(a0 m c i))) (Ideal.ofBits .f32 0x7F800000#32) = 1#1 := congrFun h i
  rw [ofBits_inf] at hi
  have hlt : max (a0 m c i : EReal) (-(a0 m c i : EReal)) < ⊤ := by
    by_contra hn
    simp [Ideal.cmp, hn] at hi
  constructor
  · intro e; rw [e] at hlt; simp at hlt
  · intro e; rw [e] at hlt; simp at hlt

end Cert.KernelIdeal.Val

end
-- ==== Proof.lean ====
/-
  The proof of `Cert.Claim`: the kernel's frame at both instances and the reference's, and the equality of all eight
  results over the extended reals for a finite input. The lemmas are in Proof/: `KBlock` to `KRun` run the kernel, `RRun`
  the reference; `KMath`, `RMath`, `Near` and `RNear` read both at the nearest code of each row; `Sums` and `RSums` read
  their totals; `Equal` equates them.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem

/-- The precondition's function takes a scalar broadcast to the input's shape. -/
theorem pre_facts : Cert.Pre_finite_z.Facts := ⟨by decide⟩

/-- The reference runs, leaves its arguments and every semaphore as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Stage.run (F := Ideal) m ρ)

open Cert.KernelIdeal.Val in
/-- From a finite input and any codebook, the kernel and the reference end with equal results. -/
theorem equal : Cert.algebraic_KernelIdeal_ReferenceIdeal_pre_finite_z (hKernelIdeal := Cert.KernelIdeal.Gen.facts)
    (hReferenceIdeal := Cert.ReferenceIdeal.Gen.facts) (hPre_finite_z := pre_facts) := by
  intro m ρ m' ρ' hpre hagree
  have hz : ∀ c, Finite m c := fun c => by
    haveI := pre_facts
    exact finite_of_pre m c (hpre c)
  refine ⟨_, _, _, _, _, _, _, _, Cert.KernelIdeal.Val.run (F := Ideal) m ρ, ?_⟩
  refine (θ_run Cert.ReferenceIdeal.defs _ _).mono (fun r h c => ?_) (Cert.ReferenceIdeal.Stage.run (F := Ideal) m' ρ')
  have e0 : Cert.ReferenceIdeal.Stage.a0 (F := Ideal) m' c = a0 m c := (hagree c).1
  have e1 : Cert.ReferenceIdeal.Stage.a1 (F := Ideal) m' c = a1 m c := (hagree c).2
  have hi : Cert.ReferenceIdeal.Stage.rIdx (F := Ideal) m' c = ix m c := by
    unfold Cert.ReferenceIdeal.Stage.rIdx; rw [e0, e1]
  have hq : Cert.ReferenceIdeal.Stage.rQ (F := Ideal) m' c = q m c := by
    unfold Cert.ReferenceIdeal.Stage.rQ; rw [hi, e1]
  obtain ⟨h0, h1, h2, h3, h4, h5, h6, h7, ha⟩ := h c
  rw [hq, e0] at h0 h1 h2 h3 h4
  rw [hi] at h5 h6 h7
  exact ⟨h0.trans (out0 m c).symm, h1.trans (out1 m c).symm, h2.trans (out2 m c).symm, h3.trans (out3 m c (hz c)).symm,
    h4.trans (out4 m c (hz c)).symm, h5.trans (out5 m c).symm, h6.trans (out6 m c).symm, h7.trans (out7 m c).symm, ha⟩

/-- Everything claimed. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, equal⟩

end Cert.Proof

end
